-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .f32) (main_arg1 : FVec F S256x16 .f32) (main_arg2 : IVec S512x2 32) (main_arg3 : FVec F S2x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 16#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .f32 := Host.absf main_arg0
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : IVec S_ 1 := andi main_v5 main_v9
  let main_v11 : FVec F S256x16 .f32 := Host.absf main_arg1
  let main_cst_3 : FVec F S_ .f32 := constant S_ .f32 0x7F800000#32
  let main_v12 : FVec F S256x16 .f32 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Pre_routed_ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .f32) (main_arg1 : FVec F S256x16 .f32) (main_arg2 : IVec S512x2 32) (main_arg3 : FVec F S16x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 16#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .f32 := Host.absf main_arg0
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : IVec S_ 1 := andi main_v5 main_v9
  let main_v11 : FVec F S256x16 .f32 := Host.absf main_arg1
  let main_cst_3 : FVec F S_ .f32 := constant S_ .f32 0x7F800000#32
  let main_v12 : FVec F S256x16 .f32 := broadcastInDim S256x16 ![] bcast_S_S256x16 main_cst_3
  let main_v13 : IVec S256x16 1 := cmpf .olt main_v11 main_v12
  let main_c_4 : IVec S_ 1 := constantI S_ 1 1#1
  let main_v14 : IVec S_ 1 := (fun x v => Host.reduce IntOp.andi x v reducesTo_S256x16_S_d0_1 h_S_) main_v13 main_c_4
  let main_v15 : IVec S_ 1 := andi main_v10 main_v14
  main_v15
-- ==== Kernel.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S512x512 : Shape := ⟨2, ![512, 512]⟩
abbrev S1536x512 : Shape := ⟨2, ![1536, 512]⟩
abbrev S36 : Shape := ⟨1, ![36]⟩
abbrev S_ : Shape := ⟨0, ![]⟩
abbrev S512x16 : Shape := ⟨2, ![512, 16]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S160x256 : Shape := ⟨2, ![160, 256]⟩
abbrev S160x1 : Shape := ⟨2, ![160, 1]⟩
abbrev S160x512 : Shape := ⟨2, ![160, 512]⟩
abbrev S1 : Shape := ⟨1, ![1]⟩
abbrev S160x128 : Shape := ⟨2, ![160, 128]⟩
abbrev S176x256 : Shape := ⟨2, ![176, 256]⟩
abbrev S176x1 : Shape := ⟨2, ![176, 1]⟩
abbrev S176x512 : Shape := ⟨2, ![176, 512]⟩
abbrev S176x128 : Shape := ⟨2, ![176, 128]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x16, .f32⟩
  | .local _ .vmem, ⟨2, _⟩ => ⟨S512x2, .i32⟩
  | .local _ .vmem, ⟨3, _⟩ => ⟨S2x256x512, .f32⟩
  | .local _ .vmem, ⟨4, _⟩ => ⟨S512x512, .f32⟩
  | .local _ .vmem, ⟨5, _⟩ => ⟨S512x512, .bf16⟩
  | .local _ .vmem, ⟨6, _⟩ => ⟨S1536x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 1 77 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_40 : BitVec 32 := 1#32
  let v92 : BitVec 32 := Scalar.muli v3 c1_i32_40
  let v93 : BitVec 32 := Scalar.addi c0_i32_41 v92
  v93.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_48 : BitVec 32 := 1#32
  let v100 : BitVec 32 := Scalar.muli v3 c1_i32_48
  let v101 : BitVec 32 := Scalar.addi c0_i32_49 v100
  v101.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_55 : BitVec 32 := 1#32
  let v108 : BitVec 32 := Scalar.muli v3 c1_i32_55
  let v109 : BitVec 32 := Scalar.addi c0_i32_56 v108
  v109.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_62 : BitVec 32 := 1#32
  let v116 : BitVec 32 := Scalar.muli v3 c1_i32_62
  let v117 : BitVec 32 := Scalar.addi c0_i32_63 v116
  v117.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_78 : BitVec 32 := 1#32
  let v162 : BitVec 32 := Scalar.muli v4 c1_i32_78
  let v163 : BitVec 32 := Scalar.addi c0_i32_79 v162
  v163.toNat
def k0_dev9 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_83 : BitVec 32 := 1#32
  let v170 : BitVec 32 := Scalar.muli v4 c1_i32_83
  let v171 : BitVec 32 := Scalar.addi c0_i32_84 v170
  v171.toNat
def k0_dev10 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_90 : BitVec 32 := 1#32
  let v178 : BitVec 32 := Scalar.muli v4 c1_i32_90
  let v179 : BitVec 32 := Scalar.addi c0_i32_91 v178
  v179.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_97 : BitVec 32 := 1#32
  let v186 : BitVec 32 := Scalar.muli v4 c1_i32_97
  let v187 : BitVec 32 := Scalar.addi c0_i32_98 v186
  v187.toNat
def k0_dev12 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_114 : BitVec 32 := 1#32
  let v232 : BitVec 32 := Scalar.muli v5 c1_i32_114
  let v233 : BitVec 32 := Scalar.addi c0_i32_115 v232
  v233.toNat
def k0_dev13 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_119 : BitVec 32 := 1#32
  let v240 : BitVec 32 := Scalar.muli v5 c1_i32_119
  let v241 : BitVec 32 := Scalar.addi c0_i32_120 v240
  v241.toNat
def k0_dev14 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_126 : BitVec 32 := 1#32
  let v248 : BitVec 32 := Scalar.muli v5 c1_i32_126
  let v249 : BitVec 32 := Scalar.addi c0_i32_127 v248
  v249.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_133 : BitVec 32 := 1#32
  let v256 : BitVec 32 := Scalar.muli v5 c1_i32_133
  let v257 : BitVec 32 := Scalar.addi c0_i32_134 v256
  v257.toNat
def k0_dev16 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_161 : BitVec 32 := 1#32
  let v280 : BitVec 32 := Scalar.muli v4 c1_i32_161
  let v281 : BitVec 32 := Scalar.addi c0_i32_162 v280
  v281.toNat
def k0_dev17 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_188 : BitVec 32 := 1#32
  let v304 : BitVec 32 := Scalar.muli v5 c1_i32_188
  let v305 : BitVec 32 := Scalar.addi c0_i32_189 v304
  v305.toNat
def k0_dev18 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_214 : BitVec 32 := 1#32
  let v328 : BitVec 32 := Scalar.muli v3 c1_i32_214
  let v329 : BitVec 32 := Scalar.addi c0_i32_215 v328
  v329.toNat
def k0_dev19 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_240 : BitVec 32 := 1#32
  let v352 : BitVec 32 := Scalar.muli v4 c1_i32_240
  let v353 : BitVec 32 := Scalar.addi c0_i32_241 v352
  v353.toNat
def k0_dev20 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_268 : BitVec 32 := 1#32
  let v376 : BitVec 32 := Scalar.muli v5 c1_i32_268
  let v377 : BitVec 32 := Scalar.addi c0_i32_269 v376
  v377.toNat
def k0_dev21 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_296 : BitVec 32 := 1#32
  let v400 : BitVec 32 := Scalar.muli v3 c1_i32_296
  let v401 : BitVec 32 := Scalar.addi c0_i32_297 v400
  v401.toNat
def k0_dev22 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_323 : BitVec 32 := 1#32
  let v424 : BitVec 32 := Scalar.muli v4 c1_i32_323
  let v425 : BitVec 32 := Scalar.addi c0_i32_324 v424
  v425.toNat
def k0_dev23 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_351 : BitVec 32 := 1#32
  let v448 : BitVec 32 := Scalar.muli v5 c1_i32_351
  let v449 : BitVec 32 := Scalar.addi c0_i32_352 v448
  v449.toNat
def k0_dev24 (d0 : Dev nD) : Nat :=
  let c0_i32_380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_379 : BitVec 32 := 1#32
  let v472 : BitVec 32 := Scalar.muli v3 c1_i32_379
  let v473 : BitVec 32 := Scalar.addi c0_i32_380 v472
  v473.toNat
def k0_dev25 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_406 : BitVec 32 := 1#32
  let v496 : BitVec 32 := Scalar.muli v4 c1_i32_406
  let v497 : BitVec 32 := Scalar.addi c0_i32_407 v496
  v497.toNat
def k0_dev26 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_434 : BitVec 32 := 1#32
  let v520 : BitVec 32 := Scalar.muli v5 c1_i32_434
  let v521 : BitVec 32 := Scalar.addi c0_i32_435 v520
  v521.toNat
def k0_dev27 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_462 : BitVec 32 := 1#32
  let v544 : BitVec 32 := Scalar.muli v3 c1_i32_462
  let v545 : BitVec 32 := Scalar.addi c0_i32_463 v544
  v545.toNat
def k0_dev28 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_490 : BitVec 32 := 1#32
  let v568 : BitVec 32 := Scalar.muli v5 c1_i32_490
  let v569 : BitVec 32 := Scalar.addi c0_i32_491 v568
  v569.toNat
def k0_dev29 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_516 : BitVec 32 := 1#32
  let v592 : BitVec 32 := Scalar.muli v3 c1_i32_516
  let v593 : BitVec 32 := Scalar.addi c0_i32_517 v592
  v593.toNat
def k0_dev30 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_542 : BitVec 32 := 1#32
  let v616 : BitVec 32 := Scalar.muli v4 c1_i32_542
  let v617 : BitVec 32 := Scalar.addi c0_i32_543 v616
  v617.toNat
def k0_dev31 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_569 : BitVec 32 := 1#32
  let v640 : BitVec 32 := Scalar.muli v5 c1_i32_569
  let v641 : BitVec 32 := Scalar.addi c0_i32_570 v640
  v641.toNat
def k0_dev32 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_597 : BitVec 32 := 1#32
  let v664 : BitVec 32 := Scalar.muli v3 c1_i32_597
  let v665 : BitVec 32 := Scalar.addi c0_i32_598 v664
  v665.toNat
def k0_dev33 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_625 : BitVec 32 := 1#32
  let v688 : BitVec 32 := Scalar.muli v4 c1_i32_625
  let v689 : BitVec 32 := Scalar.addi c0_i32_626 v688
  v689.toNat
def k0_dev34 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_653 : BitVec 32 := 1#32
  let v712 : BitVec 32 := Scalar.muli v5 c1_i32_653
  let v713 : BitVec 32 := Scalar.addi c0_i32_654 v712
  v713.toNat
def k0_dev35 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_681 : BitVec 32 := 1#32
  let v736 : BitVec 32 := Scalar.muli v3 c1_i32_681
  let v737 : BitVec 32 := Scalar.addi c0_i32_682 v736
  v737.toNat
def k0_dev36 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_709 : BitVec 32 := 1#32
  let v760 : BitVec 32 := Scalar.muli v4 c1_i32_709
  let v761 : BitVec 32 := Scalar.addi c0_i32_710 v760
  v761.toNat
def k0_dev37 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_737 : BitVec 32 := 1#32
  let v784 : BitVec 32 := Scalar.muli v5 c1_i32_737
  let v785 : BitVec 32 := Scalar.addi c0_i32_738 v784
  v785.toNat
def k0_dev38 (d0 : Dev nD) : Nat :=
  let c0_i32_766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_765 : BitVec 32 := 1#32
  let v808 : BitVec 32 := Scalar.muli v3 c1_i32_765
  let v809 : BitVec 32 := Scalar.addi c0_i32_766 v808
  v809.toNat
def k0_dev39 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_793 : BitVec 32 := 1#32
  let v832 : BitVec 32 := Scalar.muli v4 c1_i32_793
  let v833 : BitVec 32 := Scalar.addi c0_i32_794 v832
  v833.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 87
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S16x256x512, .f32⟩
  | .hbm, ⟨4, _⟩ => ⟨S512x16, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x16, .f32⟩
  | .hbm, ⟨9, _⟩ => ⟨S512x16, .f32⟩
  | .hbm, ⟨10, _⟩ => ⟨S512x16, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x16, .f32⟩
  | .hbm, ⟨15, _⟩ => ⟨S512x16, .f32⟩
  | .hbm, ⟨16, _⟩ => ⟨S512x1, .i32⟩
  | .hbm, ⟨17, _⟩ => ⟨S512, .i32⟩
  | .hbm, ⟨18, _⟩ => ⟨S512x1, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x1, .i32⟩
  | .hbm, ⟨37, _⟩ => ⟨S512x2, .i32⟩
  | .hbm, ⟨38, _⟩ => ⟨S512, .f32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512x1, .i32⟩
  | .hbm, ⟨55, _⟩ => ⟨S512x2, .i32⟩
  | .hbm, ⟨56, _⟩ => ⟨S512, .f32⟩
  | .hbm, ⟨57, _⟩ => ⟨S512, .f32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S512x256x512, .f32⟩
  | .hbm, ⟨67, _⟩ => ⟨S512x512, .f32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x256x512, .f32⟩
  | .hbm, ⟨77, _⟩ => ⟨S512x512, .f32⟩
  | .hbm, ⟨78, _⟩ => ⟨S512, .f32⟩
  | .hbm, ⟨79, _⟩ => ⟨S512x1, .f32⟩
  | .hbm, ⟨80, _⟩ => ⟨S512x512, .f32⟩
  | .hbm, ⟨81, _⟩ => ⟨S512x512, .f32⟩
  | .hbm, ⟨82, _⟩ => ⟨S512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Steps.lean ====
module

public import proofs.«01_k».proof.Proof.Gen.KernelIdeal.Skeleton
public import proofs.«01_k».proof.Proof.Gen.KernelIdeal.Launch
public import proofs.«01_k».proof.Proof.Gen.KernelIdeal.Points

/-! The kernel body as a short program over numbered blocks.

Copy number `n = 12 t + 4 s + c` belongs to round `t`, row stream `s` and column block `c`. Its source is the block
`(s, c)` of the partial-sum buffer, its target the landing block number `n` of the partner's receive buffer. -/

@[expose] public section

noncomputable section

namespace Cert.KernelIdeal.Steps

open Cert.KernelIdeal Cert.KernelIdeal.Gen
open Idealize.ShloMosaic Idealize.ShloMosaic.TcCoe
open Idealize.SL Idealize.SL.Sem

variable {F : FTy → Type} [FloatOps F]

/-! ## Numbers -/

/-- The round of copy `n`. -/
def rnd (n : Fin 36) : Nat := n.val / 12
/-- The row stream of copy `n`. -/
def str (n : Fin 36) : Nat := n.val / 4 % 3
/-- Rows of a block of stream `s`. -/
def hgt : Nat → Nat | 0 => 160 | _ => 176
/-- First row of stream `s` in the partial-sum buffer. -/
def top : Nat → Nat | 0 => 0 | 1 => 160 | _ => 336
/-- First row of stream `s` of round 0 in the receive buffer. -/
def land : Nat → Nat | 0 => 0 | 1 => 480 | _ => 1008
/-- First row of landing block `n`. -/
def rrow (n : Fin 36) : Nat := land (str n) + rnd n * hgt (str n)
/-- First column of block `n`. -/
def col (n : Fin 36) : Nat := n.val % 4 * 128
/-- First row of source block `n`. -/
def prow (n : Fin 36) : Nat := top (str n)

/-- The shape of block `n`. -/
abbrev Sh (n : Fin 36) : Shape := ⟨2, ![hgt (str n), 128]⟩

/-- A source block lies in the partial-sum buffer. -/
theorem inP (n : Fin 36) : ∀ a, (![prow n, col n] : Fin 2 → Nat) a + (Sh n).size a ≤ S512x512.size a := by
  revert n; decide
/-- A landing block lies in the receive buffer. -/
theorem inR (n : Fin 36) : ∀ a, (![rrow n, col n] : Fin 2 → Nat) a + (Sh n).size a ≤ S1536x512.size a := by
  revert n; decide
/-- A copy's semaphore lies in the array of semaphores. -/
theorem inS (n : Fin 36) : ∀ a, (![n.val] : Fin 1 → Nat) a + S1.size a ≤ S36.size a := by
  revert n; decide

/-- The rectangle of source block `n` in the partial-sum buffer (and in the output). -/
abbrev rectP (n : Fin 36) : Rect S512x512 := Rect.unit (s := S512x512) ![prow n, col n] (Sh n).size (inP n)
/-- The rectangle of landing block `n` in the receive buffer. -/
abbrev rectR (n : Fin 36) : Rect S1536x512 := Rect.unit (s := S1536x512) ![rrow n, col n] (Sh n).size (inR n)

/-- A source block is made of whole words. -/
theorem wwP (n : Fin 36) : (rectP n).WholeWords (EltTy.packing .bf16) := by revert n; decide
/-- A landing block is made of whole words. -/
theorem wwR (n : Fin 36) : (rectR n).WholeWords (EltTy.packing .bf16) := by revert n; decide
/-- A source block is made of packed rows. -/
theorem prP (n : Fin 36) : (rectP n).PackedRows (EltTy.packing .bf16) := by revert n; decide
/-- A block is not empty. -/
theorem posSh (n : Fin 36) : 0 < (Sh n).numel := by revert n; decide
/-- A block's shape casts to itself. -/
theorem castSh (n : Fin 36) : (Sh n).ShapeCasts (Sh n) := by revert n; decide

/-! ## Views and semaphores -/

/-- The partial-sum buffer, whole. -/
abbrev pM : Memref sig .tc .vmem S512x512 .bf16 := Memref.whole cc0_scratch0
/-- The receive buffer, whole. -/
abbrev rM : Memref sig .tc .vmem S1536x512 .bf16 := Memref.whole cc0_scratch1
/-- The output's staging buffer, whole. -/
abbrev oM : Memref sig .tc .vmem S512x512 .f32 := Memref.whole cc0_stg4_0
/-- The staging buffers of the four operands, whole. -/
abbrev xM : Memref sig .tc .vmem S512x256 .f32 := Memref.whole cc0_stg0_0
abbrev wM : Memref sig .tc .vmem S256x16 .f32 := Memref.whole cc0_stg1_0
abbrev iM : Memref sig .tc .vmem S512x2 .i32 := Memref.whole cc0_stg2_0
abbrev eM : Memref sig .tc .vmem S2x256x512 .f32 := Memref.whole cc0_stg3_0

/-- Source block `n`. -/
abbrev pB (n : Fin 36) : Memref sig .tc .vmem (Sh n) .bf16 := pM.slice (rectP n) (fun _ => rfl)
/-- Landing block `n`. -/
abbrev rB (n : Fin 36) : Memref sig .tc .vmem (Sh n) .bf16 := rM.slice (rectR n) (fun _ => rfl)
/-- The send semaphore of copy `n`. -/
abbrev sndS (n : Fin 36) : DmaSems sig S_ :=
  (cc0_scratch2.slice (Rect.unit (s := S36) ![n.val] S1.size (inS n))).squeeze S_ squeezes_S1_S_
/-- The receive semaphore of copy `n`. -/
abbrev rcvS (n : Fin 36) : DmaSems sig S_ :=
  (cc0_scratch3.slice (Rect.unit (s := S36) ![n.val] S1.size (inS n))).squeeze S_ squeezes_S1_S_
/-- The barrier semaphore. -/
abbrev barS : Sem sig := (SemArray.scalar (sig.barrier 0 rfl) : Sems sig S_).sem

/-- A source block's view is exact in words. -/
theorem wePB (n : Fin 36) : (pB n).view.WordExact := (Memref.isWhole_whole _).wordExact_slice rfl _ (wwP n)
/-- A landing block's view is exact in words. -/
theorem weRB (n : Fin 36) : (rB n).view.WordExact := (Memref.isWhole_whole _).wordExact_slice rfl _ (wwR n)

/-- The three partners, as the kernel computes them. -/
def part : Nat → Dev nD → Dev nD
  | 0, d => ⟨k0_dev1 d, k0_dev1_lt d⟩
  | 1, d => ⟨k0_dev2 d, k0_dev2_lt d⟩
  | _, d => ⟨k0_dev3 d, k0_dev3_lt d⟩
/-- Which partner takes copy `n`. -/
def which (n : Fin 36) : Nat := (str n + rnd n) % 3

/-! ## Payloads -/

/-- The device's number as the kernel reads it. -/
def devW (d : Dev nD) : BitVec 32 := Scalar.remsi (Scalar.divsi (Dev.word d) 1#32) 8#32

section Pay
variable (d : Dev nD) (x : Vec F S512x256 .f32) (w : Vec F S256x16 .f32) (i0 i1 : Vec F S512x1 .i32)
  (e0 e1 : Vec F S1x256x512 .f32)

/-- The two normalised weights of each row. -/
abbrev wt0 : FVec F S512x1 .f32 := k0_pay8 (k0_pay2 x w) (k0_pay3 i0) (k0_pay4 i1)
abbrev wt1 : FVec F S512x1 .f32 := k0_pay9 (k0_pay2 x w) (k0_pay3 i0) (k0_pay4 i1)
/-- The number of the device's first expert. -/
abbrev fst : BitVec 32 := Scalar.muli (devW d) 2#32

/-- What the body stores in the three row streams. -/
def stream0 : FVec F S160x512 .bf16 :=
  k0_pay19 (k0_pay11 e1) (k0_pay12 (k0_pay1 x)) (k0_pay13 (k0_pay3 i0)) (k0_pay14 (k0_pay4 i1))
    (k0_pay15 (k0_pay2 x w) (k0_pay3 i0) (k0_pay4 i1)) (k0_pay16 (k0_pay2 x w) (k0_pay3 i0) (k0_pay4 i1))
    (k0_pay17 (devW d) (k0_pay1 x) (k0_pay2 x w) (k0_pay3 i0) (k0_pay4 i1) e0) (Scalar.addi (fst d) 1#32) (k0_pay18 (devW d))
def stream1 : FVec F S176x512 .bf16 :=
  k0_pay27 (k0_pay11 e1) (k0_pay20 (k0_pay1 x)) (k0_pay21 (k0_pay3 i0)) (k0_pay22 (k0_pay4 i1))
    (k0_pay23 (wt0 x w i0 i1)) (k0_pay24 (wt1 x w i0 i1))
    (k0_pay25 (k0_pay1 x) (k0_pay3 i0) (k0_pay4 i1) (wt0 x w i0 i1) (wt1 x w i0 i1) (fst d) (k0_pay10 e0))
    (Scalar.addi (fst d) 1#32) (k0_pay26 (fst d))
def stream2 : FVec F S176x512 .bf16 :=
  k0_pay36 (k0_pay11 e1) (k0_pay28 (k0_pay1 x)) (k0_pay30 (k0_pay4 i1))
    (k0_pay31 (wt0 x w i0 i1)) (k0_pay32 (wt1 x w i0 i1))
    (k0_pay33 (k0_pay1 x) (k0_pay3 i0) (k0_pay4 i1) (wt0 x w i0 i1) (wt1 x w i0 i1) (fst d) (k0_pay10 e0))
    (Scalar.addi (fst d) 1#32) (k0_pay34 (k0_pay3 i0) (fst d)) k0_pay35
end Pay

/-- The sum of a block and what landed for it. -/
abbrev addB (n : Fin 36) (a b : Vec F (Sh n) .bf16) : FVec F (Sh n) .bf16 := shapeCast (Sh n) (addf a b) (castSh n)
/-- The last round's sum, widened for the output. -/
abbrev outB (n : Fin 36) (a b : Vec F (Sh n) .bf16) : FVec F (Sh n) .f32 := extf .f32 (addf a b) bitsLt_bf16_f32

/-! ## The program -/

/-- Programs of the body. -/
abbrev P (F : FTy → Type) [FloatOps F] := Prog (TpuEff nD τ sig (Elt F) Λ₀ .tc) PUnit

/-- Start copy `n`. -/
def sendOp (d : Dev nD) (n : Fin 36) (k : P F) : P F :=
  .op (.enqueueDma (pB n) (.remote (Dev.tc (part (which n) d)) (rB n) (.dma (sndS n).sem)) (.dma (rcvS n).sem) (wePB n) (weRB n)
    ⟨⟨rfl, Or.inl rfl⟩, trivial⟩) fun _ => k

/-- Start the copies of a list. -/
def sends (d : Dev nD) : List (Fin 36) → P F → P F
  | [], k => k
  | n :: l, k => sendOp d n (sends d l k)

/-- Wait for copy `n` to have left and for the partner's copy `n` to have landed, and read both blocks. -/
def takeOp (n : Fin 36) (k : Vec F (Sh n) .bf16 → Vec F (Sh n) .bf16 → P F) : P F :=
  .op (.waitDma2 (sndS n).sem (rB n) (pB n) (weRB n) (wePB n)) fun _ =>
  .op (.waitDma2 (rcvS n).sem (pB n) (rB n) (wePB n) (weRB n)) fun _ =>
  .op (.load pM (rectP n).toLoadRect (View.loadsAt_vmem (posSh n))) fun a =>
  .op (.load rM (rectR n).toLoadRect (View.loadsAt_vmem (posSh n))) fun b => k a b

/-- The copy that follows copy `n` on its block. -/
def nxt (n : Fin 36) : Fin 36 := ⟨(n.val + 12) % 36, Nat.mod_lt _ (by decide)⟩

/-- The steps of the first two rounds: add what landed, store it, send it on. -/
def mids (d : Dev nD) : List (Fin 36) → P F → P F
  | [], k => k
  | n :: l, k => takeOp n fun a b =>
      .op (.load pM (rectP n).toLoadRect (View.loadsAt_vmem (posSh n))) fun _ =>
      .op (.store pM (rectP n) (addB n a b) Finset.univ
        (View.stores_vmem (posSh n) ((Memref.isWhole_whole _).storeExact_slice rfl _ (prP n)) (fun _ => rfl)) (.inl rfl)) fun _ =>
      sendOp d (nxt n) (mids d l k)

/-- The steps of the last round: add what landed and store it in the output. -/
def lasts : List (Fin 36) → P F
  | [] => .ret ⟨⟩
  | n :: l => takeOp n fun a b =>
      .op (.load oM (rectP n).toLoadRect (View.loadsAt_vmem (posSh n))) fun _ =>
      .op (.store oM (rectP n) (outB n a b) Finset.univ (View.stores_vmem_bits_univ (posSh n) rfl) (.inl rfl)) fun _ =>
      lasts l

/-- Everything after the last stream's store and sends. -/
def tailP (d : Dev nD) : P F :=
  mids d [0, 4, 8, 1, 5, 9, 2, 6, 10, 3, 7, 11] <|
  mids d [12, 16, 20, 13, 17, 21, 14, 18, 22, 15, 19, 23] <|
  lasts [24, 28, 32, 25, 29, 33, 26, 30, 34, 27, 31, 35]

/-- Store the three streams and send their blocks, then the rounds. -/
def streamsP (d : Dev nD) (x : Vec F S512x256 .f32) (w : Vec F S256x16 .f32) (i0 i1 : Vec F S512x1 .i32)
    (e0 e1 : Vec F S1x256x512 .f32) : P F :=
  .op (.load pM (Rect.unit (s := S512x512) ![0, 0] S160x512.size inb_S512x512_S160x512_0_0).toLoadRect
    (View.loadsAt_vmem h_S160x512)) fun _ =>
  .op (.store pM (Rect.unit (s := S512x512) ![0, 0] S160x512.size inb_S512x512_S160x512_0_0) (stream0 d x w i0 i1 e0 e1)
    Finset.univ (View.stores_vmem h_S160x512
      ((Memref.isWhole_whole _).storeExact_slice rfl _ packedbf16_S512x512_S160x512_0_0) (fun _ => rfl)) (.inl rfl)) fun _ =>
  .op (.semWait barS (3#32 : BitVec 32).toInt) fun _ =>
  sends d [0, 1, 2, 3] <|
  .op (.load pM (Rect.unit (s := S512x512) ![160, 0] S176x512.size inb_S512x512_S176x512_160_0).toLoadRect
    (View.loadsAt_vmem h_S176x512)) fun _ =>
  .op (.store pM (Rect.unit (s := S512x512) ![160, 0] S176x512.size inb_S512x512_S176x512_160_0) (stream1 d x w i0 i1 e0 e1)
    Finset.univ (View.stores_vmem h_S176x512
      ((Memref.isWhole_whole _).storeExact_slice rfl _ packedbf16_S512x512_S176x512_160_0) (fun _ => rfl)) (.inl rfl)) fun _ =>
  sends d [4, 5, 6, 7] <|
  .op (.load pM (Rect.unit (s := S512x512) ![336, 0] S176x512.size inb_S512x512_S176x512_336_0).toLoadRect
    (View.loadsAt_vmem h_S176x512)) fun _ =>
  .op (.store pM (Rect.unit (s := S512x512) ![336, 0] S176x512.size inb_S512x512_S176x512_336_0) (stream2 d x w i0 i1 e0 e1)
    Finset.univ (View.stores_vmem h_S176x512
      ((Memref.isWhole_whole _).storeExact_slice rfl _ packedbf16_S512x512_S176x512_336_0) (fun _ => rfl)) (.inl rfl)) fun _ =>
  sends d [8, 9, 10, 11] (tailP d)

/-- The body: signal the partners, read the operands, then the streams and the rounds. -/
def bodyP : P F :=
  .op .deviceId fun d =>
  .op (.semSignal (part 0 d, .tc) barS (1#32 : BitVec 32).toInt) fun _ =>
  .op (.semSignal (part 1 d, .tc) barS (1#32 : BitVec 32).toInt) fun _ =>
  .op (.semSignal (part 2 d, .tc) barS (1#32 : BitVec 32).toInt) fun _ =>
  .op (.load xM (Rect.unit (s := S512x256) ![0, 0] S512x256.size inb_S512x256_S512x256_0_0).toLoadRect (View.loadsAt_vmem h_S512x256)) fun x =>
  .op (.load wM (Rect.unit (s := S256x16) ![0, 0] S256x16.size inb_S256x16_S256x16_0_0).toLoadRect (View.loadsAt_vmem h_S256x16)) fun w =>
  .op (.load iM (Rect.unit (s := S512x2) ![0, 0] S512x1.size inb_S512x2_S512x1_0_0).toLoadRect (View.loadsAt_vmem h_S512x1)) fun i0 =>
  .op (.load iM (Rect.unit (s := S512x2) ![0, 1] S512x1.size inb_S512x2_S512x1_0_1).toLoadRect (View.loadsAt_vmem h_S512x1)) fun i1 =>
  .op (.load eM (Rect.unit (s := S2x256x512) ![0, 0, 0] S1x256x512.size inb_S2x256x512_S1x256x512_0_0_0).toLoadRect (View.loadsAt_vmem h_S1x256x512)) fun e0 =>
  .op (.load eM (Rect.unit (s := S2x256x512) ![1, 0, 0] S1x256x512.size inb_S2x256x512_S1x256x512_1_0_0).toLoadRect (View.loadsAt_vmem h_S1x256x512)) fun e1 =>
  streamsP d x w i0 i1 e0 e1

set_option maxRecDepth 100000 in
set_option maxHeartbeats 0 in
/-- The printed body is that program. -/
theorem body_eq : bodyAt0 (F := F) t0_0 = bodyP := rfl

end Cert.KernelIdeal.Steps
-- ==== Proof.Protocol.lean ====
module

public import proofs.«01_k».proof.Proof.Steps
public import Idealize.ShloMosaic.Lib.Pipeline.Launch
public import Idealize.ShloMosaic.Lib.Pipeline.Kit
public import Idealize.ShloMosaic.Lib.Pipeline.BigSepL
public import Idealize.ShloMosaic.Lib.Ring
public import Idealize.ShloMosaic.Lib.Tactic
public import Idealize.ShloMosaic.Lib.ValueIdx

/-! What the devices' blocks hold at each round, and the protocol of the launch's semaphores: who waits, who signals,
who copies, how much, and what each unit hands over.

* The barrier cell of device `c` has three duties of one unit, number `k` paid by partner `k`: it hands over the
  partner's landing buffers for the copies that `c` sends to that partner.
* The send cell of copy `n` has one duty, the copy's credit: the source block comes back.
* The receive cell of copy `n` has one duty, paid by the partner's copy `n`: the landing block, holding the partner's
  source block. -/

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's resources: duties are named by a partner's number. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Partners -/

/-- The partner of a partner is the device itself. -/
theorem part_part (k : Nat) (c : Dev nD) : part k (part k c) = c := by
  match k with
  | 0 => revert c; decide
  | 1 => revert c; decide
  | (_ + 2) => revert c; show ∀ c, part 2 (part 2 c) = c; decide

/-- Partner `k`, as a bijection. -/
def partE (k : Nat) : Dev nD ≃ Dev nD := ⟨part k, part k, part_part k, part_part k⟩

/-- The partner that takes copy `n`. -/
abbrev peer (n : Fin 36) (c : Dev nD) : Dev nD := part (which n) c
/-- A copy's partner sends the same copy back. -/
theorem peer_peer (n : Fin 36) (c : Dev nD) : peer n (peer n c) = c := part_part _ c

/-! ## Cells -/

abbrev barCell (c : Dev nD) : GSem nD τ sig := ((c : Thread nD τ), .reg barS)
abbrev sndCell (c : Dev nD) (n : Fin 36) : GSem nD τ sig := ((c : Thread nD τ), .dma (sndS n).sem)
abbrev rcvCell (c : Dev nD) (n : Fin 36) : GSem nD τ sig := ((c : Thread nD τ), .dma (rcvS n).sem)

/-- The send semaphores' numbers. -/
theorem snd_val (n : Fin 36) : (sndS n).sem.val = 5 + n.val := by revert n; decide
/-- The receive semaphores' numbers. -/
theorem rcv_val (n : Fin 36) : (rcvS n).sem.val = 41 + n.val := by revert n; decide

/-- The copy that a DMA semaphore belongs to. -/
def cn (q : DmaSem sig) : Fin 36 := ⟨(q.val - 5) % 36, Nat.mod_lt _ (by decide)⟩
/-- A send semaphore belongs to its copy. -/
theorem cn_snd (n : Fin 36) : cn (sndS n).sem = n := by revert n; decide
/-- A receive semaphore belongs to its copy. -/
theorem cn_rcv (n : Fin 36) : cn (rcvS n).sem = n := by revert n; decide

/-- The credit of copy `n`. -/
abbrev cr (n : Fin 36) : ℕ := (rB n).view.dmaCredit
/-- A copy's credit is positive. -/
theorem cr_pos (n : Fin 36) : 0 < cr n := View.dmaCredit_pos _ (posSh n)

/-! ## Contents -/

/-- The operands as staged on device `c`. -/
def xv (c : Dev nD) : Vec F S512x256 .f32 := (win0_0.blk (0 : Fin 1)).view.read (Elt F) (m ((c : Thread nD τ).loc main_arg0))
def wv (c : Dev nD) : Vec F S256x16 .f32 := (win0_1.blk (0 : Fin 1)).view.read (Elt F) (m ((c : Thread nD τ).loc main_arg1))
def iv (c : Dev nD) : Vec F S512x2 .i32 := (win0_2.blk (0 : Fin 1)).view.read (Elt F) (m ((c : Thread nD τ).loc main_arg2))
def ev (c : Dev nD) : Vec F S2x256x512 .f32 := (win0_3.blk (0 : Fin 1)).view.read (Elt F) (m ((c : Thread nD τ).loc main_arg3))

/-- What the body's six loads give on device `c`. -/
abbrev ldx (c : Dev nD) : Vec F S512x256 .f32 :=
  (xM : Memref sig .tc .vmem S512x256 .f32).view.readAt (Elt F) (Rect.unit (s := S512x256) ![0, 0] S512x256.size inb_S512x256_S512x256_0_0).toLoadRect (xv m c)
abbrev ldw (c : Dev nD) : Vec F S256x16 .f32 :=
  (wM : Memref sig .tc .vmem S256x16 .f32).view.readAt (Elt F) (Rect.unit (s := S256x16) ![0, 0] S256x16.size inb_S256x16_S256x16_0_0).toLoadRect (wv m c)
abbrev ldi0 (c : Dev nD) : Vec F S512x1 .i32 :=
  (iM : Memref sig .tc .vmem S512x2 .i32).view.readAt (Elt F) (Rect.unit (s := S512x2) ![0, 0] S512x1.size inb_S512x2_S512x1_0_0).toLoadRect (iv m c)
abbrev ldi1 (c : Dev nD) : Vec F S512x1 .i32 :=
  (iM : Memref sig .tc .vmem S512x2 .i32).view.readAt (Elt F) (Rect.unit (s := S512x2) ![0, 1] S512x1.size inb_S512x2_S512x1_0_1).toLoadRect (iv m c)
abbrev lde0 (c : Dev nD) : Vec F S1x256x512 .f32 :=
  (eM : Memref sig .tc .vmem S2x256x512 .f32).view.readAt (Elt F) (Rect.unit (s := S2x256x512) ![0, 0, 0] S1x256x512.size inb_S2x256x512_S1x256x512_0_0_0).toLoadRect (ev m c)
abbrev lde1 (c : Dev nD) : Vec F S1x256x512 .f32 :=
  (eM : Memref sig .tc .vmem S2x256x512 .f32).view.readAt (Elt F) (Rect.unit (s := S2x256x512) ![1, 0, 0] S1x256x512.size inb_S2x256x512_S1x256x512_1_0_0).toLoadRect (ev m c)

/-- The three streams that device `c` stores. -/
def st0 (c : Dev nD) : FVec F S160x512 .bf16 := stream0 c (ldx m c) (ldw m c) (ldi0 m c) (ldi1 m c) (lde0 m c) (lde1 m c)
def st1 (c : Dev nD) : FVec F S176x512 .bf16 := stream1 c (ldx m c) (ldw m c) (ldi0 m c) (ldi1 m c) (lde0 m c) (lde1 m c)
def st2 (c : Dev nD) : FVec F S176x512 .bf16 := stream2 c (ldx m c) (ldw m c) (ldi0 m c) (ldi1 m c) (lde0 m c) (lde1 m c)

/-- A row's bound. -/
theorem row_lt (i : S512x512.Idx) : (i 0).val < 512 := (i 0).isLt

/-- Device `c`'s own partial result: its three streams, one below the other. -/
def own (c : Dev nD) : S512x512.Idx → F .bf16 := fun i =>
  if h : (i 0).val < 160 then st0 m c (ValueIdx.ix2 ⟨(i 0).val, h⟩ (i 1 : Fin 512))
  else if h2 : (i 0).val < 336 then st1 m c (ValueIdx.ix2 ⟨(i 0).val - 160, by omega⟩ (i 1 : Fin 512))
  else st2 m c (ValueIdx.ix2 ⟨(i 0).val - 336, by have := row_lt i; omega⟩ (i 1 : Fin 512))

/-- The stream of a row. -/
def strOf (i : S512x512.Idx) : Nat := if (i 0).val < 160 then 0 else if (i 0).val < 336 then 1 else 2

/-- The partial sums after `t` rounds: round `t` adds the partner's. -/
def V : Nat → Dev nD → S512x512.Idx → F .bf16
  | 0, c, i => own m c i
  | t + 1, c, i => FloatOps.addf (V t c i) (V t (part ((strOf i + t) % 3) c) i)

/-- The result on device `c`. -/
def outV (c : Dev nD) : S512x512.Idx → F .f32 := fun i => FloatOps.extf .f32 bitsLt_bf16_f32 (V m 3 c i)

/-- Some contents for the receive buffer, to name what lands without what it overwrites. -/
def blank : S1536x512.Idx → F .bf16 := fun _ => FloatOps.ofBits .bf16 0#16

/-- Source block `n` at device `c`, held at contents `f`. -/
def pPts (c : Dev nD) (n : Fin 36) (f : S512x512.Idx → F .bf16) : sProp 𝕄 :=
  (pB n).view.loc (c : Thread nD τ) ↦[(pB n).view.set]{fullShare} f
/-- Landing block `n` at device `c`, held at contents `f`. -/
def rPts (c : Dev nD) (n : Fin 36) (f : S1536x512.Idx → F .bf16) : sProp 𝕄 :=
  (rB n).view.loc (c : Thread nD τ) ↦[(rB n).view.set]{fullShare} f
/-- What has landed in block `n` at device `c`: the partner's source block. -/
def landed (c : Dev nD) (n : Fin 36) : S1536x512.Idx → F .bf16 :=
  (rB n).view.write (Elt F) blank ((pB n).view.read (Elt F) (V m (rnd n) (peer n c))) Finset.univ

omit [FloatOps F] in
instance pPts_storable (c : Dev nD) (n) (f) : BI.Storable (upEmb : UEmb _ 𝕄) (pPts (F := F) c n f) := by unfold pPts; infer_instance
omit [FloatOps F] in
instance rPts_storable (c : Dev nD) (n) (f) : BI.Storable (upEmb : UEmb _ 𝕄) (rPts (F := F) c n f) := by unfold rPts; infer_instance

/-! ## The schedule -/

/-- What partner `k`'s signal hands device `c`: the partner's landing blocks for the copies that `c` sends to it. -/
def barPay (c : Dev nD) (k : Fin 3) : sProp 𝕄 :=
  bigSep (Finset.univ.filter fun n : Fin 36 => which n = k.val) fun n => iprop(∃ f, rPts (part k.val c) n f)

/-- One round, round 0, on the barrier, send and receive cells. -/
def sched : Rounds.Schedule (GSem nD τ sig) (Fin 3) 𝕄 where
  duties g r := if r = 0 ∧ g.1.2 = .tc then
    (match g.2 with | .reg _ => Finset.univ | .dma q => if q.val < 5 then ∅ else {0}) else ∅
  unitless _ := False
  amount g _ _ := match g.2 with | .reg _ => 1 | .dma q => cr (cn q)
  payload g _ d := match g.2 with
    | .reg _ => barPay g.1.1 d
    | .dma q => if q.val < 41 then pPts g.1.1 (cn q) (V m (rnd (cn q)) g.1.1) else rPts g.1.1 (cn q) (landed m g.1.1 (cn q))
  amount_pos g _ _ _ := by
    rcases g with ⟨_, _ | q⟩
    · exact Nat.one_pos
    · exact cr_pos _

instance sched_storable (g : GSem nD τ sig) (r : ℕ) (d : Fin 3) :
    BI.Storable (upEmb : UEmb _ 𝕄) ((sched (F := F) m).payload g r d) := by
  rcases g with ⟨_, _ | q⟩
  · show BI.Storable upEmb (barPay _ d); unfold barPay; infer_instance
  · show BI.Storable upEmb (if q.val < 41 then _ else _); split <;> infer_instance

section Sched
variable (c : Dev nD) (n : Fin 36)

/-- A barrier cell has three duties, -/
theorem duties_bar : (sched (F := F) m).duties (barCell c) 0 = Finset.univ := by dsimp only [sched]; exact if_pos ⟨rfl, rfl⟩
/-- a send cell one, -/
theorem duties_snd : (sched (F := F) m).duties (sndCell c n) 0 = {0} := by
  dsimp only [sched]; rw [if_pos ⟨rfl, rfl⟩, if_neg (by rw [snd_val]; omega)]
/-- a receive cell one, -/
theorem duties_rcv : (sched (F := F) m).duties (rcvCell c n) 0 = {0} := by
  dsimp only [sched]; rw [if_pos ⟨rfl, rfl⟩, if_neg (by rw [rcv_val]; omega)]
/-- and no cell has any in a later round. -/
theorem duties_later (g : GSem nD τ sig) : ∀ r, 1 ≤ r → (sched (F := F) m).duties g r = ∅ :=
  fun r hr => by dsimp only [sched]; rw [if_neg fun h => by omega]

/-- A barrier duty is one unit, -/
theorem amount_bar (d : Fin 3) : (sched (F := F) m).amount (barCell c) 0 d = 1 := rfl
/-- a send duty is its copy's credit, -/
theorem amount_snd (d : Fin 3) : (sched (F := F) m).amount (sndCell c n) 0 d = cr n := by dsimp only [sched]; rw [cn_snd]
/-- and so is a receive duty. -/
theorem amount_rcv (d : Fin 3) : (sched (F := F) m).amount (rcvCell c n) 0 d = cr n := by dsimp only [sched]; rw [cn_rcv]

/-- A barrier wait takes three units, -/
theorem expect_bar : (sched (F := F) m).expect (barCell c) 0 = 3 := by
  unfold Schedule.expect Schedule.amountOf; rw [duties_bar]; rfl
/-- a send wait its copy's credit, -/
theorem expect_snd : (sched (F := F) m).expect (sndCell c n) 0 = cr n := by
  unfold Schedule.expect Schedule.amountOf; rw [duties_snd, Finset.sum_singleton, amount_snd]
/-- and a receive wait likewise. -/
theorem expect_rcv : (sched (F := F) m).expect (rcvCell c n) 0 = cr n := by
  unfold Schedule.expect Schedule.amountOf; rw [duties_rcv, Finset.sum_singleton, amount_rcv]

/-- A barrier duty hands over the partner's landing blocks. -/
theorem payload_bar (d : Fin 3) : (sched (F := F) m).payload (barCell c) 0 d = barPay c d := rfl
/-- A send duty hands the source block back. -/
theorem payload_snd (d : Fin 3) : (sched (F := F) m).payload (sndCell c n) 0 d = pPts c n (V m (rnd n) c) := by
  dsimp only [sched]; rw [if_pos (by rw [snd_val]; omega), cn_snd]
/-- A receive duty hands over the block that landed. -/
theorem payload_rcv (d : Fin 3) : (sched (F := F) m).payload (rcvCell c n) 0 d = rPts c n (landed m c n) := by
  dsimp only [sched]; rw [if_neg (by rw [rcv_val]; omega), cn_rcv]

/-- What a barrier wait receives: all three partners' landing blocks. -/
theorem rest_bar : bigSep ((sched (F := F) m).duties (barCell c) 0 \ ∅) (fun d => (sched (F := F) m).payload (barCell c) 0 d)
    = bigSep Finset.univ fun d => barPay c d := by
  rw [Finset.sdiff_empty, duties_bar]; rfl
/-- What a send wait receives: the source block. -/
theorem rest_snd : bigSep ((sched (F := F) m).duties (sndCell c n) 0 \ ∅) (fun d => (sched (F := F) m).payload (sndCell c n) 0 d)
    = pPts c n (V m (rnd n) c) := by
  rw [Finset.sdiff_empty, duties_snd, bigSep_singleton, payload_snd]
/-- What a receive wait receives: the block that landed. -/
theorem rest_rcv : bigSep ((sched (F := F) m).duties (rcvCell c n) 0 \ ∅) (fun d => (sched (F := F) m).payload (rcvCell c n) 0 d)
    = rPts c n (landed m c n) := by
  rw [Finset.sdiff_empty, duties_rcv, bigSep_singleton, payload_rcv]
end Sched

/-- The three barrier payloads together: every landing block that device `c` will copy into. -/
theorem barPay_all (c : Dev nD) : (bigSep Finset.univ fun k : Fin 3 => (barPay c k : sProp 𝕄))
    = bigSep Finset.univ fun n : Fin 36 => iprop(∃ f, rPts (peer n c) n f) := by
  have h : ∀ n : Fin 36, which n < 3 := by decide
  unfold barPay
  rw [bigSep_congr fun k _ => bigSep_filter Finset.univ (fun n : Fin 36 => which n = k.val) _, bigSep_univ_comm]
  refine bigSep_congr fun n _ => ?_
  rw [← bigSep_filter Finset.univ (fun k : Fin 3 => which n = k.val) fun k => iprop(∃ f, rPts (part k.val c) n f),
    show (Finset.univ.filter fun k : Fin 3 => which n = k.val) = {⟨which n, h n⟩} from
      Finset.ext fun k => by simp [Fin.ext_iff, eq_comm], bigSep_singleton]

/-! ## What a device owes; the levels -/

/-- What the copies of a list owe: each its credit to the partner's receive cell; the head is peeled off last-added. -/
def owe (c : Dev nD) : List (Fin 36) → CellTallies nD τ sig Unit
  | [] => 0
  | n :: l => owe c l + tallyAt (rcvCell (peer n c) n) () (cr n)

/-- The order in which the copies are started. -/
def order0 : List (Fin 36) := [0, 4, 8, 1, 5, 9, 2, 6, 10, 3, 7, 11]
def order1 : List (Fin 36) := [12, 16, 20, 13, 17, 21, 14, 18, 22, 15, 19, 23]
def order2 : List (Fin 36) := [24, 28, 32, 25, 29, 33, 26, 30, 34, 27, 31, 35]
def first : List (Fin 36) := [0, 1, 2, 3, 4, 5, 6, 7, 8, 9, 10, 11]
def order : List (Fin 36) := first ++ (order1 ++ order2)

/-- After the first two signals, after the first, and at launch. -/
def O₃ (c : Dev nD) : CellTallies nD τ sig Unit := owe c order
def O₂ (c : Dev nD) : CellTallies nD τ sig Unit := O₃ c + tallyAt (barCell (part 2 c)) () 1
def O₁ (c : Dev nD) : CellTallies nD τ sig Unit := O₂ c + tallyAt (barCell (part 1 c)) () 1
def O₀ (c : Dev nD) : CellTallies nD τ sig Unit := O₁ c + tallyAt (barCell (part 0 c)) () 1

def L (g : GSem nD τ sig) : Finset Unit := if g.1.2 = .tc then {()} else ∅
/-- Barrier cells at 1, receive cells of round `t` at `2 + t`, everything else at 0. -/
def lv (g : GSem nD τ sig) (_ : Unit) : ℕ := match g.2 with
  | .reg _ => 1
  | .dma q => if q.val < 41 then 0 else 2 + rnd (cn q)

/-- Only TensorCore cells have levels. -/
theorem L_of_ne (g : GSem nD τ sig) (h : g.1.2 ≠ .tc) : L g = ∅ := if_neg h
/-- A TensorCore cell has one. -/
theorem L_tc (c : Dev nD) (sm : SemLoc sig) : L ((c : Thread nD τ), sm) = {()} := if_pos rfl
/-- The level of a receive cell. -/
theorem lv_rcv (c : Dev nD) (n : Fin 36) (u : Unit) : lv (rcvCell c n) u = 2 + rnd n := by
  dsimp only [lv]; rw [if_neg (by rw [rcv_val]; omega), cn_rcv]
/-- The level of a barrier cell. -/
theorem lv_bar (c : Dev nD) (u : Unit) : lv (barCell c) u = 1 := rfl

/-- What the copies of a list owe lies at their receive cells. -/
theorem owe_pos {c : Dev nD} {l : List (Fin 36)} {g : GSem nD τ sig} {u : Unit} (h : 0 < owe c l g u) :
    ∃ n ∈ l, g = rcvCell (peer n c) n := by
  induction l with
  | nil => exact absurd h (Nat.lt_irrefl 0)
  | cons n l ih =>
    unfold owe at h
    rw [Pi.add_apply, Finsupp.add_apply, tallyAt_apply] at h
    by_cases e : g = rcvCell (peer n c) n ∧ u = ()
    · exact ⟨n, List.mem_cons_self, e.1⟩
    · rw [if_neg e, Nat.add_zero] at h
      obtain ⟨k, hk, hg⟩ := ih h
      exact ⟨k, List.mem_cons_of_mem _ hk, hg⟩

/-- What a device owes at launch lies at receive cells and at barrier cells. -/
theorem O₀_pos {c : Dev nD} {g : GSem nD τ sig} {u : Unit} (h : 0 < O₀ c g u) :
    (∃ n, g = rcvCell (peer n c) n) ∨ ∃ k, g = barCell (part k c) := by
  unfold O₀ O₁ O₂ O₃ at h
  simp only [Pi.add_apply, Finsupp.add_apply, tallyAt_apply] at h
  by_contra hn
  rw [not_or] at hn
  rw [if_neg (fun e => hn.2 ⟨_, e.1⟩), if_neg (fun e => hn.2 ⟨_, e.1⟩), if_neg (fun e => hn.2 ⟨_, e.1⟩)] at h
  obtain ⟨n, _, e⟩ := owe_pos (show 0 < owe c order g u from h)
  exact hn.1 ⟨n, e⟩

/-- A wait below every round that is still owed may be made. -/
theorem mayWait_owe (c : Dev nD) (sm : SemLoc sig) (l : List (Fin 36)) (h : ∀ n ∈ l, lv ((c : Thread nD τ), sm) () < 2 + rnd n) :
    (levAts L lv : sProp 𝕄) ⊢ MayWait (c : Thread nD τ) sm () (owe c l) :=
  MayOwe.of_cut (L := L) (lev := lv) (lv ((c : Thread nD τ), sm) ())
    (fun p hp => by rw [Finset.mem_singleton.mp hp, L_tc]; exact Finset.mem_singleton_self _)
    (fun g u hg => by obtain ⟨n, _, rfl⟩ := owe_pos hg; exact Finset.mem_singleton_self _)
    (fun p hp => by rw [Finset.mem_singleton.mp hp])
    (fun g u hg => by obtain ⟨n, hn, rfl⟩ := owe_pos hg; rw [lv_rcv]; exact h n hn)

/-- A wait on a staging semaphore may be made at launch and at the end. -/
theorem mayWait_stage (c : Dev nD) (q : DmaSem sig) (hq : q.val < 41) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases O₀_pos hg with ⟨n, rfl⟩ | ⟨k, rfl⟩ <;> exact Finset.mem_singleton_self _)
      (fun p hp => by rw [Finset.mem_singleton.mp hp]; dsimp only [lv]; rw [if_pos hq])
      (fun g u hg => by
        rcases O₀_pos hg with ⟨n, rfl⟩ | ⟨k, rfl⟩
        · rw [lv_rcv]; omega
        · exact Nat.one_pos)
  · rw [MayWait_zero]; iintro -; iempintro

end Cert.KernelIdeal.Steps
-- ==== Proof.Blocks.lean ====
module

public import proofs.«01_k».proof.Proof.Protocol
public import Idealize.ShloMosaic.Lib.Pipeline.Value

/-! The blocks as sets of elements: which rows and columns each holds, how they cover their buffers, and what a block
holds after a copy, after a sum and after the output's store. -/

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- Block `n` of the output's staging buffer. -/
abbrev oB (n : Fin 36) : Memref sig .tc .vmem (Sh n) .f32 := oM.slice (rectP n) (fun _ => rfl)
/-- Output block `n` at device `c`, held at contents `f`. -/
def oPts (c : Dev nD) (n : Fin 36) (f : S512x512.Idx → F .f32) : sProp 𝕄 :=
  (oB n).view.loc (c : Thread nD τ) ↦[(oB n).view.set]{fullShare} f

/-! ## The blocks' elements -/

/-- An element lies in source block `n` when its row and its column lie in the block's ranges. -/
theorem mem_rectP (n : Fin 36) (i : S512x512.Idx) : i ∈ (rectP n).set ↔
    (prow n ≤ (i 0).val ∧ (i 0).val < prow n + hgt (str n)) ∧ col n ≤ (i 1).val ∧ (i 1).val < col n + 128 := by
  rw [Rect.mem_set_unit]; exact Fin.forall_fin_two
/-- An element lies in landing block `n` when its row and its column lie in the block's ranges. -/
theorem mem_rectR (n : Fin 36) (i : S1536x512.Idx) : i ∈ (rectR n).set ↔
    (rrow n ≤ (i 0).val ∧ (i 0).val < rrow n + hgt (str n)) ∧ col n ≤ (i 1).val ∧ (i 1).val < col n + 128 := by
  rw [Rect.mem_set_unit]; exact Fin.forall_fin_two

/-- The elements of the source block's view are its rectangle's. -/
theorem set_pB (n : Fin 36) : (pB n).view.set = (rectP n).set := View.set_slice_whole cc0_scratch0 (rectP n)
/-- The elements of the landing block's view are its rectangle's. -/
theorem set_rB (n : Fin 36) : (rB n).view.set = (rectR n).set := View.set_slice_whole cc0_scratch1 (rectR n)
/-- The elements of the output block's view are its rectangle's. -/
theorem set_oB (n : Fin 36) : (oB n).view.set = (rectP n).set := View.set_slice_whole cc0_stg4_0 (rectP n)

/-- There are three streams. -/
theorem str_lt (n : Fin 36) : str n < 3 := Nat.mod_lt _ (by decide)

/-- A block's elements lie in the block's stream. -/
theorem strOf_mem {n : Fin 36} {i : S512x512.Idx} (h : i ∈ (rectP n).set) : strOf i = str n := by
  have h0 := ((mem_rectP n i).mp h).1
  unfold prow at h0
  have hs := str_lt n
  unfold strOf
  generalize str n = s at *
  match s, hs with
  | 0, _ => simp only [top, hgt] at h0; rw [if_pos (by omega)]
  | 1, _ => simp only [top, hgt] at h0; rw [if_neg (by omega), if_pos (by omega)]
  | 2, _ => simp only [top, hgt] at h0; rw [if_neg (by omega), if_neg (by omega)]

/-- The blocks of round 0, one for each place. -/
abbrev blk0 (j : Fin 12) : Fin 36 := ⟨j.val, by omega⟩

/-- The place of an element of the partial-sum buffer. -/
def placeP (i : S512x512.Idx) : Nat := 4 * strOf i + (i 1).val / 128
/-- The copy that an element of the receive buffer belongs to. -/
def placeR (i : S1536x512.Idx) : Nat :=
  (if (i 0).val < 480 then 12 * ((i 0).val / 160)
    else if (i 0).val < 1008 then 12 * (((i 0).val - 480) / 176) + 4
    else 12 * (((i 0).val - 1008) / 176) + 8) + (i 1).val / 128

/-- An element lies in place `j` when its place is `j`. -/
theorem mem_place (j : Fin 12) (i : S512x512.Idx) : i ∈ (rectP (blk0 j)).set ↔ placeP i = j.val := by
  rw [mem_rectP]
  have h0 : (i 0).val < 512 := (i 0).isLt
  have h1 : (i 1).val < 512 := (i 1).isLt
  have e : str (blk0 j) = j.val / 4 ∧ j.val / 4 < 3 := by revert j; decide
  unfold placeP strOf prow col
  rw [e.1]
  generalize (i 0).val = r at *
  generalize (i 1).val = q at *
  have hs := e.2
  show (_ ∧ _) ∧ j.val % 4 * 128 ≤ q ∧ q < j.val % 4 * 128 + 128 ↔ _
  generalize he : j.val / 4 = s at *
  match s, hs with
  | 0, _ => simp only [top, hgt]; split_ifs <;> omega
  | 1, _ => simp only [top, hgt]; split_ifs <;> omega
  | 2, _ => simp only [top, hgt]; split_ifs <;> omega
/-- An element lies in landing block `n` when `placeR` says `n`. -/
theorem mem_placeR (n : Fin 36) (i : S1536x512.Idx) : i ∈ (rectR n).set ↔ placeR i = n.val := by
  rw [mem_rectR]
  have h0 : (i 0).val < 1536 := (i 0).isLt
  have h1 : (i 1).val < 512 := (i 1).isLt
  have hs := str_lt n
  have hn := n.isLt
  unfold placeR rrow col rnd
  generalize (i 0).val = r at *
  generalize (i 1).val = q at *
  generalize he : str n = s at *
  unfold str at he
  match s, hs with
  | 0, _ => simp only [land, hgt]; split_ifs <;> omega
  | 1, _ => simp only [land, hgt]; split_ifs <;> omega
  | 2, _ => simp only [land, hgt]; split_ifs <;> omega

/-- There are twelve places. -/
theorem placeP_lt (i : S512x512.Idx) : placeP i < 12 := by
  have h1 : (i 1).val < 512 := (i 1).isLt
  unfold placeP strOf; split_ifs <;> omega
/-- There are 36 landing blocks. -/
theorem placeR_lt (i : S1536x512.Idx) : placeR i < 36 := by
  have h0 : (i 0).val < 1536 := (i 0).isLt
  have h1 : (i 1).val < 512 := (i 1).isLt
  unfold placeR; split_ifs <;> omega

/-- The places of the partial-sum buffer, and the landing blocks. -/
def setP (j : Fin 12) : Finset S512x512.Idx := (rectP (blk0 j)).set
def setR (n : Fin 36) : Finset S1536x512.Idx := (rectR n).set

/-- Different places share no element. -/
theorem disjP (j j' : Fin 12) (h : j ≠ j') : Disjoint (setP j) (setP j') :=
  Finset.disjoint_left.mpr fun i hi hi' => h (Fin.ext (((mem_place j i).mp hi).symm.trans ((mem_place j' i).mp hi')))
/-- Different landing blocks share no element. -/
theorem disjR (n n' : Fin 36) (h : n ≠ n') : Disjoint (setR n) (setR n') :=
  Finset.disjoint_left.mpr fun i hi hi' => h (Fin.ext (((mem_placeR n i).mp hi).symm.trans ((mem_placeR n' i).mp hi')))
/-- The places make up the partial-sum buffer. -/
theorem coverP (inst : DecidableEq S512x512.Idx) : Finset.univ.biUnion setP = Finset.univ :=
  Finset.eq_univ_of_forall fun i => Finset.mem_biUnion.mpr ⟨⟨placeP i, placeP_lt i⟩, Finset.mem_univ _, (mem_place _ i).mpr rfl⟩
/-- The landing blocks make up the receive buffer. -/
theorem coverR (inst : DecidableEq S1536x512.Idx) : Finset.univ.biUnion setR = Finset.univ :=
  Finset.eq_univ_of_forall fun i => Finset.mem_biUnion.mpr ⟨⟨placeR i, placeR_lt i⟩, Finset.mem_univ _, (mem_placeR _ i).mpr rfl⟩

/-- Copies on one place share their block. -/
theorem rectP_nxt (n : Fin 36) : (rectP (nxt n)).set = (rectP n).set := by
  have e : prow (nxt n) = prow n ∧ hgt (str (nxt n)) = hgt (str n) ∧ col (nxt n) = col n := by revert n; decide
  ext i; rw [mem_rectP, mem_rectP, e.1, e.2.1, e.2.2]

section Pts
variable (c : Dev nD) (n : Fin 36)

/-- A source block held is its rectangle of the partial-sum buffer held. -/
theorem pPts_eq (f : S512x512.Idx → F .bf16) :
    (pPts c n f : sProp 𝕄) = (((c : Thread nD τ).loc cc0_scratch0) ↦[(rectP n).set]{fullShare} f) := by
  unfold pPts; rw [set_pB]
/-- A landing block held is its rectangle of the receive buffer held. -/
theorem rPts_eq (f : S1536x512.Idx → F .bf16) :
    (rPts c n f : sProp 𝕄) = (((c : Thread nD τ).loc cc0_scratch1) ↦[(rectR n).set]{fullShare} f) := by
  unfold rPts; rw [set_rB]
/-- An output block held is its rectangle of the output's staging buffer held. -/
theorem oPts_eq (f : S512x512.Idx → F .f32) :
    (oPts c n f : sProp 𝕄) = (((c : Thread nD τ).loc cc0_stg4_0) ↦[(rectP n).set]{fullShare} f) := by
  unfold oPts; rw [set_oB]

/-- A block may be named by the next copy on its place. -/
theorem pPts_nxt (f : S512x512.Idx → F .bf16) : (pPts c (nxt n) f : sProp 𝕄) = pPts c n f := by
  rw [pPts_eq, pPts_eq, rectP_nxt]

/-- The partial-sum buffer, block by block. -/
theorem pPts_split (f : S512x512.Idx → F .bf16) :
    ((((c : Thread nD τ).loc cc0_scratch0) ↦{fullShare} f) : sProp 𝕄) = bigSep Finset.univ fun j => pPts c (blk0 j) f :=
  (Ring.pointsTo_blocks (Val := Elt F) (Ix := Unit) (Name := ℕ) (U := UU) (Lvl := ℕ) (q := fullShare) (ℓ := (c : Thread nD τ).loc cc0_scratch0) setP disjP (coverP _) f).trans
    (bigSep_congr fun j _ => (pPts_eq c _ f).symm)
/-- The output's staging buffer, block by block. -/
theorem oPts_split (f : S512x512.Idx → F .f32) :
    ((((c : Thread nD τ).loc cc0_stg4_0) ↦{fullShare} f) : sProp 𝕄) = bigSep Finset.univ fun j => oPts c (blk0 j) f :=
  (Ring.pointsTo_blocks (Val := Elt F) (Ix := Unit) (Name := ℕ) (U := UU) (Lvl := ℕ) (q := fullShare) (ℓ := (c : Thread nD τ).loc cc0_stg4_0) setP disjP (coverP _) f).trans
    (bigSep_congr fun j _ => (oPts_eq c _ f).symm)
/-- The receive buffer, block by block. -/
theorem rPts_split (f : S1536x512.Idx → F .bf16) :
    ((((c : Thread nD τ).loc cc0_scratch1) ↦{fullShare} f) : sProp 𝕄) = bigSep Finset.univ fun n => rPts c n f :=
  (Ring.pointsTo_blocks (Val := Elt F) (Ix := Unit) (Name := ℕ) (U := UU) (Lvl := ℕ) (q := fullShare) (ℓ := (c : Thread nD τ).loc cc0_scratch1) setR disjR (coverR _) f).trans
    (bigSep_congr fun n _ => (rPts_eq c _ f).symm)
/-- Blocks of the receive buffer at contents of their own make the buffer. -/
theorem rPts_join (fs : Fin 36 → S1536x512.Idx → F .bf16) :
    (bigSep Finset.univ fun n => (rPts c n (fs n) : sProp 𝕄)) ⊢ iprop(∃ f, ((c : Thread nD τ).loc cc0_scratch1) ↦{fullShare} f) :=
  (Entails.of_eq (bigSep_congr fun n _ => rPts_eq c n (fs n))).trans <|
  Ring.pointsTo_blocks_join (Val := Elt F) (Ix := Unit) (Name := ℕ) (U := UU) (Lvl := ℕ) (q := fullShare) (ℓ := (c : Thread nD τ).loc cc0_scratch1) setR disjR (coverR _) fs blank

/-! ## Contents of a block -/

/-- What lands does not depend on what it overwrites. -/
theorem rPts_landed (f : S1536x512.Idx → F .bf16) :
    (rPts (peer n c) n ((rB n).view.write (Elt F) f ((pB n).view.read (Elt F) (V m (rnd n) c)) Finset.univ) : sProp 𝕄)
      = rPts (peer n c) n (landed m (peer n c) n) := by
  unfold rPts landed
  rw [peer_peer]
  refine pointsTo_congr fun i hi => ?_
  obtain ⟨x, -, rfl⟩ := Finset.mem_map.mp hi
  rw [View.write_emb_of_mem _ _ (Finset.mem_univ x), View.write_emb_of_mem _ _ (Finset.mem_univ x)]

/-- Reading what landed gives the partner's block. -/
theorem read_landed : (rB n).view.read (Elt F) (landed m c n) = (pB n).view.read (Elt F) (V m (rnd n) (peer n c)) :=
  View.read_write_univ _ _

/-- The stored sum is the next round's partial sum. -/
theorem pPts_add (f : S512x512.Idx → F .bf16) :
    (pPts c n ((pB n).view.write (Elt F) f (addB n ((pB n).view.read (Elt F) (V m (rnd n) c))
        ((pB n).view.read (Elt F) (V m (rnd n) (peer n c)))) Finset.univ) : sProp 𝕄)
      = pPts c n (V m (rnd n + 1) c) := by
  unfold pPts
  refine pointsTo_congr fun i hi => ?_
  have hs : strOf i = str n := strOf_mem (by rw [← set_pB]; exact hi)
  obtain ⟨x, -, rfl⟩ := Finset.mem_map.mp hi
  rw [View.write_emb_of_mem _ _ (Finset.mem_univ x)]
  unfold addB
  rw [Idealize.ShloMosaic.shapeCast_self]
  show FloatOps.addf (V m (rnd n) c ((pB n).view.emb x)) (V m (rnd n) (peer n c) ((pB n).view.emb x))
    = FloatOps.addf (V m (rnd n) c ((pB n).view.emb x)) (V m (rnd n) (part ((strOf ((pB n).view.emb x) + rnd n) % 3) c) ((pB n).view.emb x))
  rw [hs]; rfl

/-- The output's store holds the widened last sum. -/
theorem oPts_out (h : rnd n = 2) (f : S512x512.Idx → F .f32) :
    (oPts c n ((oB n).view.write (Elt F) f (outB n ((pB n).view.read (Elt F) (V m (rnd n) c))
        ((pB n).view.read (Elt F) (V m (rnd n) (peer n c)))) Finset.univ) : sProp 𝕄)
      = oPts c n (outV m c) := by
  unfold oPts
  refine pointsTo_congr fun i hi => ?_
  have hs : strOf i = str n := strOf_mem (by rw [← set_oB]; exact hi)
  obtain ⟨x, -, rfl⟩ := Finset.mem_map.mp hi
  rw [View.write_emb_of_mem _ _ (Finset.mem_univ x)]
  show FloatOps.extf .f32 bitsLt_bf16_f32 (FloatOps.addf (V m (rnd n) c ((pB n).view.emb x)) (V m (rnd n) (peer n c) ((pB n).view.emb x)))
    = FloatOps.extf .f32 bitsLt_bf16_f32 (FloatOps.addf (V m 2 c ((oB n).view.emb x)) (V m 2 (part ((strOf ((oB n).view.emb x) + 2) % 3) c) ((oB n).view.emb x)))
  rw [hs]
  unfold peer which
  rw [h]; rfl

end Pts

end Cert.KernelIdeal.Steps
-- ==== Proof.Rules.lean ====
module

public import proofs.«01_k».proof.Proof.Blocks

/-! One rule for each repeated step of the body — start a copy, take a copy, a step of a middle round, a step of the last
round — and, by induction on the list of copies, one rule for each list of steps. -/

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and their records -/

/-- A device's cells: the barrier, a send cell and a receive cell for each copy. -/
abbrev Ci : Type := Unit ⊕ (Fin 36 ⊕ Fin 36)
/-- The semaphore of a cell. -/
def csem : Ci → SemLoc sig
  | .inl _ => .reg barS
  | .inr (.inl n) => .dma (sndS n).sem
  | .inr (.inr n) => .dma (rcvS n).sem
/-- A device's cell. -/
abbrev kcell (p : Dev nD × Ci) : GSem nD τ sig := ((p.1 : Thread nD τ), csem p.2)

/-- Every cell's invariant, at the names the launch gave, and that every cell has reached round 0. -/
def records (K : Dev nD × Ci → ℕ) : sProp 𝕄 :=
  bigSep Finset.univ fun p : Dev nD × Ci => iprop(cellInv ER (sched m) (K p) (kcell p) ∗ reached ER (kcell p) 0)

instance records_persistent (K : Dev nD × Ci → ℕ) : BI.Persistent (records m K) := by unfold records; infer_instance

section Rules
variable (K : Dev nD × Ci → ℕ) (c : Dev nD)

/-- The records give every cell's invariant. -/
theorem rec_at (p : Dev nD × Ci) : records m K ⊢ iprop(cellInv ER (sched m) (K p) (kcell p) ∗ reached ER (kcell p) 0) :=
  bigSep_elim (Φ := fun p : Dev nD × Ci => iprop(cellInv ER (sched m) (K p) (kcell p) ∗ reached ER (kcell p) 0)) (Finset.mem_univ p)

abbrev 𝒱₀ : Variants := Variants.none

/-- A program of the body, run on device `c`. -/
abbrev run (c : Dev nD) (p : P F) (Q : PUnit → sProp 𝕄) : sProp 𝕄 :=
  wp frame (wpE (defs₀ (F := F)) 𝒱₀ (c : Thread nD τ) none) Set.univ p Q

/-- What a device owes, whatever waits are recorded. -/
def ow (c : Dev nD) (O : CellTallies nD τ sig Unit) : sProp 𝕄 := iprop(∃ W, owes (c : Thread nD τ) O W)

/-- What starting copy `n` takes beside its source block: the partner's landing block and the two duties it pays. -/
def sndRes (c : Dev nD) (n : Fin 36) : sProp 𝕄 :=
  iprop((∃ f, rPts (peer n c) n f) ∗ dutyTok ER (sndCell c n) 0 0 ∗ dutyTok ER (rcvCell (peer n c) n) 0 0)
/-- The credit that starting copy `n` gives. -/
def sndCr (c : Dev nD) (n : Fin 36) : sProp 𝕄 := cred (tallyAt (sndCell c n) () (cr n))
/-- What taking copy `n` takes beside that credit: the positions at its two cells and the credit at the receive cell. -/
def takeRes (c : Dev nD) (n : Fin 36) : sProp 𝕄 :=
  iprop(atPos ER (sndCell c n) 0 ∅ 0 ∗ atPos ER (rcvCell c n) 0 ∅ 0 ∗ cred (tallyAt (rcvCell c n) () (cr n)))
/-- What taking copy `n` leaves: what landed, and the two counters at zero. -/
def doneRes (c : Dev nD) (n : Fin 36) : sProp 𝕄 :=
  iprop(rPts c n (landed m c n) ∗ semVal (sndCell c n) 0 ∗ semVal (rcvCell c n) 0)

/-- Copy `n` started. -/
theorem wp_sendOp (n : Fin 36) (l : List (Fin 36)) (k : P F) (Q : PUnit → sProp 𝕄) :
    iprop(records m K ∗ pPts c n (V m (rnd n) c) ∗ sndRes c n ∗ ow c (owe c (n :: l)))
      ⊢ iprop(((sndCr c n ∗ ow c (owe c l)) -∗ run c k Q) -∗ run c (sendOp c n k) Q) := by
  unfold sndRes ow sndCr sendOp pPts
  iintro ⟨#HR, Hp, ⟨⟨%f, Hr⟩, Ht1, Ht2⟩, ⟨%W, HO⟩⟩ Hk
  ihave ⟨#HI1, #Hr1⟩ := (rec_at m K (c, .inr (.inl n))) $$ HR
  ihave ⟨#HI2, #Hr2⟩ := (rec_at m K (peer n c, .inr (.inr n))) $$ HR
  unfold rPts
  iapply (Rounds.wp_send_pointsTo 𝒱₀ ER (sched m) (c : Thread nD τ) none (κ₁ := K (c, .inr (.inl n))) (κ₂ := K (peer n c, .inr (.inr n)))
    (r₁ := 0) (r₂ := 0) (d₁ := 0) (d₂ := 0) (fd := f)
    (by rw [duties_snd]; exact Finset.mem_singleton_self _) (by rw [duties_rcv]; exact Finset.mem_singleton_self _)
    () () (cr n) rfl (amount_snd m c n 0) (amount_rcv m (peer n c) n 0) (owe c l) rfl (W := W)
    (by rw [payload_snd]; unfold pPts; exact BI.Entails.refl _)
    (by rw [payload_rcv, ← rPts_landed m c n f]; unfold rPts; exact BI.Entails.refl _)) $$ [Hp Hr HO Ht1 Ht2]
  · isplitr; · iexact HI1
    isplitr; · iexact HI2
    isplitl [Hp]; · iexact Hp
    isplitl [Hr]; · iexact Hr
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The copies of a list started, one after the other. -/
theorem wp_sends (l rest : List (Fin 36)) (k : P F) (Q : PUnit → sProp 𝕄) :
    iprop(records m K ∗ bigSepL l (fun n => iprop(pPts c n (V m (rnd n) c) ∗ sndRes c n)) ∗ ow c (owe c (l ++ rest)))
      ⊢ iprop(((bigSepL l (fun n => sndCr c n) ∗ ow c (owe c rest)) -∗ run c k Q) -∗ run c (sends c l k) Q) := by
  induction l with
  | nil =>
    iintro ⟨-, -, HO⟩ Hk
    iapply Hk
    isplitr; · rw [bigSepL_nil]; iempintro
    iexact HO
  | cons n l ih =>
    rw [bigSepL_cons', bigSepL_cons']
    iintro ⟨#HR, ⟨⟨Hp, Hs⟩, Hl⟩, HO⟩ Hk
    iapply (wp_sendOp m K c n (l ++ rest) (sends c l k) Q) $$ [Hp Hs HO]
    · isplitr; · iexact HR
      isplitl [Hp]; · iexact Hp
      isplitl [Hs]; · iexact Hs
      iexact HO
    iintro ⟨Hc, HO⟩
    iapply ih $$ [Hl HO]
    · isplitr; · iexact HR
      isplitl [Hl]; · iexact Hl
      iexact HO
    iintro ⟨Hcl, HO⟩
    iapply Hk
    isplitr [HO]
    · isplitl [Hc]; · iexact Hc
      iexact Hcl
    iexact HO

/-- The source block's credit is the landing block's. -/
theorem credit_pB (n : Fin 36) : (pB n).view.dmaCredit = cr n := rfl

/-- Copy `n` taken: the source block is back, the partner's block has landed, both are read. -/
theorem wp_takeOp (n : Fin 36) (l : List (Fin 36)) (hl : ∀ j ∈ l, rnd n < rnd j)
    (k : Vec F (Sh n) .bf16 → Vec F (Sh n) .bf16 → P F) (Q : PUnit → sProp 𝕄) :
    iprop(records m K ∗ levAts L lv ∗ takeRes c n ∗ sndCr c n ∗ ow c (owe c l))
      ⊢ iprop(((pPts c n (V m (rnd n) c) ∗ doneRes m c n ∗ ow c (owe c l))
            -∗ run c (k ((pB n).view.read (Elt F) (V m (rnd n) c)) ((pB n).view.read (Elt F) (V m (rnd n) (peer n c)))) Q)
          -∗ run c (takeOp n k) Q) := by
  unfold takeRes ow sndCr takeOp
  iintro ⟨#HR, #Hlev, ⟨HatS, HatV, HcV⟩, HcS, ⟨%W, HO⟩⟩ Hk
  ihave ⟨#HI1, -⟩ := (rec_at m K (c, .inr (.inl n))) $$ HR
  ihave ⟨#HI2, -⟩ := (rec_at m K (c, .inr (.inr n))) $$ HR
  iapply (Rounds.wp_wait_rest_token 𝒱₀ ER (sched m) (c : Thread nD τ) none (κ := K (c, .inr (.inl n)))
      (wpE_waitDma2_eq 𝒱₀ (c : Thread nD τ) none Set.univ) (Set.mem_univ _) () (O := owe c l) (W := W) (R := 0) (m := 0) (T := ∅)
      (by rw [Nat.zero_add]; exact (expect_snd m c n).symm)) $$ [HcS HO HatS]
  · isplitr; · iexact HI1
    isplitl [HcS]; · iexact HcS
    isplitl [HO]; · iexact HO
    isplitr
    · iapply (mayWait_owe c (.dma (sndS n).sem) l (fun j _ => by
        show (if (sndS n).sem.val < 41 then 0 else _) < _
        rw [if_pos (by rw [snd_val]; omega)]; omega))
      iexact Hlev
    iexact HatS
  iintro ⟨HO, HatS, -, Hpay⟩
  ihave Hp := (Entails.of_eq (rest_snd m c n)) $$ Hpay
  iapply (Rounds.wp_wait_rest_token 𝒱₀ ER (sched m) (c : Thread nD τ) none (κ := K (c, .inr (.inr n)))
      (wpE_waitDma2_eq 𝒱₀ (c : Thread nD τ) none Set.univ) (Set.mem_univ _) () (O := owe c l) (W := insert (SemLoc.dma (sndS n).sem, ()) W) (R := 0) (m := 0) (T := ∅)
      (by rw [Nat.zero_add]; exact (expect_rcv m c n).symm)) $$ [HcV HO HatV]
  · isplitr; · iexact HI2
    isplitl [HcV]; · iexact HcV
    isplitl [HO]; · iexact HO
    isplitr
    · iapply (mayWait_owe c (.dma (rcvS n).sem) l (fun j hj => by rw [show lv ((c : Thread nD τ), .dma (rcvS n).sem) () = 2 + rnd n from lv_rcv c n ()]; have := hl j hj; omega))
      iexact Hlev
    iexact HatV
  iintro ⟨HO, HatV, -, Hpay⟩
  ihave Hr := (Entails.of_eq (rest_rcv m c n)) $$ Hpay
  imod (Rounds.cell_close ER (sched m) (Set.mem_univ (K (c, .inr (.inl n)))) (fun h => h) (R := 0 + 1) (duties_later m (sndCell c n))) $$ [HatS] with HzS
  · isplitr; · iexact HI1
    iexact HatS
  imod (Rounds.cell_close ER (sched m) (Set.mem_univ (K (c, .inr (.inr n)))) (fun h => h) (R := 0 + 1) (duties_later m (rcvCell c n))) $$ [HatV] with HzV
  · isplitr; · iexact HI2
    iexact HatV
  unfold pPts
  iapply (wp_load_rect 𝒱₀ (c : Thread nD τ) none Set.univ (m := pM) (r := rectP n) (S := (pB n).view.set) (Finset.Subset.refl _)) $$ Hp
  iintro Hp
  unfold doneRes rPts
  iapply (wp_load_rect 𝒱₀ (c : Thread nD τ) none Set.univ (m := rM) (r := rectR n) (S := (rB n).view.set) (Finset.Subset.refl _)) $$ Hr
  iintro Hr
  rw [show (rM.access (rectR n)).read (Elt F) (landed m c n) = (pB n).view.read (Elt F) (V m (rnd n) (peer n c)) from read_landed m c n]
  iapply Hk
  isplitl [Hp]; · iexact Hp
  isplitl [Hr HzS HzV]
  · isplitl [Hr]; · iexact Hr
    isplitl [HzS] <;> iassumption
  iexists _; iexact HO

/-- What follows the taking of copy `n` in a middle round, and in the last round. -/
def midK (c : Dev nD) (n : Fin 36) (p : P F) (a b : Vec F (Sh n) .bf16) : P F :=
  .op (.load pM (rectP n).toLoadRect (View.loadsAt_vmem (posSh n))) fun _ =>
  .op (.store pM (rectP n) (addB n a b) Finset.univ
    (View.stores_vmem (posSh n) ((Memref.isWhole_whole _).storeExact_slice rfl _ (prP n)) (fun _ => rfl)) (.inl rfl)) fun _ =>
  sendOp c (nxt n) p
def lastK (n : Fin 36) (p : P F) (a b : Vec F (Sh n) .bf16) : P F :=
  .op (.load oM (rectP n).toLoadRect (View.loadsAt_vmem (posSh n))) fun _ =>
  .op (.store oM (rectP n) (outB n a b) Finset.univ (View.stores_vmem_bits_univ (posSh n) rfl) (.inl rfl)) fun _ => p

/-- A middle round takes its first copy first. -/
theorem mids_cons (n : Fin 36) (l : List (Fin 36)) (k : P F) : mids c (n :: l) k = takeOp n (midK c n (mids c l k)) := rfl
/-- The last round takes its first copy first. -/
theorem lasts_cons (n : Fin 36) (l : List (Fin 36)) : lasts (F := F) (n :: l) = takeOp n (lastK n (lasts l)) := rfl

/-- The steps of a middle round: each copy taken, added, stored and the next copy on its place started. -/
theorem wp_mids (l rest : List (Fin 36)) (h2 : ∀ n ∈ l, rnd (nxt n) = rnd n + 1)
    (hl : ∀ n ∈ l, ∀ j ∈ l.map nxt ++ rest, rnd n < rnd j) (k : P F) (Q : PUnit → sProp 𝕄) :
    iprop(records m K ∗ levAts L lv ∗ bigSepL l (fun n => iprop(takeRes c n ∗ sndCr c n ∗ sndRes c (nxt n)))
        ∗ ow c (owe c (l.map nxt ++ rest)))
      ⊢ iprop(((bigSepL l (fun n => iprop(doneRes m c n ∗ sndCr c (nxt n))) ∗ ow c (owe c rest)) -∗ run c k Q)
          -∗ run c (mids c l k) Q) := by
  induction l with
  | nil =>
    iintro ⟨-, -, -, HO⟩ Hk
    iapply Hk
    isplitr; · rw [bigSepL_nil]; iempintro
    iexact HO
  | cons n l ih =>
    rw [bigSepL_cons', bigSepL_cons', mids_cons]
    iintro ⟨#HR, #Hlev, ⟨⟨Ht, Hc, Hs⟩, Hl⟩, HO⟩ Hk
    iapply (wp_takeOp m K c n (nxt n :: (l.map nxt ++ rest)) (hl n List.mem_cons_self) (midK c n (mids c l k)) Q) $$ [Ht Hc HO]
    · isplitr; · iexact HR
      isplitr; · iexact Hlev
      isplitl [Ht]; · iexact Ht
      isplitl [Hc]; · iexact Hc
      iexact HO
    iintro ⟨Hp, Hd, HO⟩
    unfold pPts midK
    iapply (wp_load_rect 𝒱₀ (c : Thread nD τ) none Set.univ (m := pM) (r := rectP n) (S := (pB n).view.set) (Finset.Subset.refl _)) $$ Hp
    iintro Hp
    iapply (wp_store 𝒱₀ (c : Thread nD τ) none Set.univ (m := pM) (r := rectP n) (Mk := Finset.univ) (S := (pB n).view.set) (Finset.Subset.refl _)) $$ Hp
    iintro Hp
    ihave Hp := (Entails.of_eq ((pPts_add m c n _).trans (show _ = pPts c (nxt n) (V m (rnd (nxt n)) c) by
      rw [pPts_nxt, h2 n List.mem_cons_self]))) $$ [Hp]
    · unfold pPts; iexact Hp
    iapply (wp_sendOp m K c (nxt n) (l.map nxt ++ rest) (mids c l k) Q) $$ [Hp Hs HO]
    · isplitr; · iexact HR
      isplitl [Hp]; · iexact Hp
      isplitl [Hs]; · iexact Hs
      iexact HO
    iintro ⟨Hc, HO⟩
    iapply (ih (fun j hj => h2 j (List.mem_cons_of_mem _ hj))
      (fun j hj i hi => hl j (List.mem_cons_of_mem _ hj) i (List.mem_cons_of_mem _ hi))) $$ [Hl HO]
    · isplitr; · iexact HR
      isplitr; · iexact Hlev
      isplitl [Hl]; · iexact Hl
      iexact HO
    iintro ⟨Hl, HO⟩
    iapply Hk
    isplitr [HO]
    · isplitl [Hd Hc]
      · isplitl [Hd]; · iexact Hd
        iexact Hc
      iexact Hl
    iexact HO

/-- The steps of the last round: each copy taken, added and stored in the output. -/
theorem wp_lasts (l : List (Fin 36)) (h2 : ∀ n ∈ l, rnd n = 2) (Q : PUnit → sProp 𝕄) :
    iprop(records m K ∗ levAts L lv ∗ bigSepL l (fun n => iprop(takeRes c n ∗ sndCr c n ∗ ∃ f, oPts c n f)) ∗ ow c 0)
      ⊢ iprop(((bigSepL l (fun n => iprop(pPts c n (V m 2 c) ∗ doneRes m c n ∗ oPts c n (outV m c))) ∗ ow c 0) -∗ Q ⟨⟩)
          -∗ run c (lasts l) Q) := by
  induction l with
  | nil =>
    unfold lasts run
    rw [wp_ret]
    iintro ⟨-, -, -, HO⟩ Hk
    imodintro
    iapply Hk
    isplitr; · rw [bigSepL_nil]; iempintro
    iexact HO
  | cons n l ih =>
    rw [bigSepL_cons', bigSepL_cons', lasts_cons]
    iintro ⟨#HR, #Hlev, ⟨⟨Ht, Hc, ⟨%f, Ho⟩⟩, Hl⟩, HO⟩ Hk
    iapply (wp_takeOp m K c n [] (fun j hj => absurd hj List.not_mem_nil) (lastK n (lasts l)) Q) $$ [Ht Hc HO]
    · isplitr; · iexact HR
      isplitr; · iexact Hlev
      isplitl [Ht]; · iexact Ht
      isplitl [Hc]; · iexact Hc
      iexact HO
    iintro ⟨Hp, Hd, HO⟩
    unfold oPts lastK
    iapply (wp_load_rect 𝒱₀ (c : Thread nD τ) none Set.univ (m := oM) (r := rectP n) (S := (oB n).view.set) (Finset.Subset.refl _)) $$ Ho
    iintro Ho
    iapply (wp_store 𝒱₀ (c : Thread nD τ) none Set.univ (m := oM) (r := rectP n) (Mk := Finset.univ) (S := (oB n).view.set) (Finset.Subset.refl _)) $$ Ho
    iintro Ho
    ihave Ho := (Entails.of_eq (oPts_out m c n (h2 n List.mem_cons_self) _)) $$ [Ho]
    · unfold oPts; iexact Ho
    iapply (ih (fun j hj => h2 j (List.mem_cons_of_mem _ hj))) $$ [Hl HO]
    · isplitr; · iexact HR
      isplitr; · iexact Hlev
      isplitl [Hl]; · unfold oPts; iexact Hl
      iexact HO
    iintro ⟨Hl, HO⟩
    iapply Hk
    isplitr [HO]
    · isplitl [Hp Hd Ho]
      · isplitl [Hp]; · rw [← h2 n List.mem_cons_self]; iexact Hp
        isplitl [Hd]; · iexact Hd
        unfold oPts; iexact Ho
      iexact Hl
    iexact HO

end Rules

end Cert.KernelIdeal.Steps
-- ==== Proof.Body.lean ====
module

public import proofs.«01_k».proof.Proof.Rules

/-! The body of the kernel on one device: from what the launch gives it to the sums in its output. -/

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Lists of copies -/

/-- A list's chain of pairs is the pair of the chains. -/
theorem bigSepL_sep {I : Type} (l : List I) (Φ Ψ : I → sProp 𝕄) :
    bigSepL l (fun i => iprop(Φ i ∗ Ψ i)) = iprop(bigSepL l Φ ∗ bigSepL l Ψ) := by
  induction l with
  | nil => exact (BI.equiv_iff.mp BI.sep_emp).symm
  | cons i l ih =>
    rw [bigSepL_cons', bigSepL_cons', bigSepL_cons', ih]
    apply BI.Entails.antisymm
    · show iprop((Φ i ∗ Ψ i) ∗ bigSepL l Φ ∗ bigSepL l Ψ) ⊢ iprop((Φ i ∗ bigSepL l Φ) ∗ Ψ i ∗ bigSepL l Ψ)
      iintro ⟨⟨H1, H2⟩, H3, H4⟩
      isplitl [H1 H3]; · isplitl [H1] <;> iassumption
      isplitl [H2] <;> iassumption
    · show iprop((Φ i ∗ bigSepL l Φ) ∗ Ψ i ∗ bigSepL l Ψ) ⊢ iprop((Φ i ∗ Ψ i) ∗ bigSepL l Φ ∗ bigSepL l Ψ)
      iintro ⟨⟨H1, H3⟩, H2, H4⟩
      isplitl [H1 H2]; · isplitl [H1] <;> iassumption
      isplitl [H3] <;> iassumption

/-- All copies, in the order in which they are taken, and in the order in which they are started. -/
theorem all_taken (Φ : Fin 36 → sProp 𝕄) :
    bigSep Finset.univ Φ = iprop(bigSepL order0 Φ ∗ bigSepL order1 Φ ∗ bigSepL order2 Φ) := by
  rw [bigSep_univ_eq_bigSepL (order0 ++ (order1 ++ order2)) (by decide) (by decide) Φ, bigSepL_append, bigSepL_append]
/-- All copies, in the order in which they are started. -/
theorem all_sent (Φ : Fin 36 → sProp 𝕄) :
    bigSep Finset.univ Φ = iprop((bigSepL [0, 1, 2, 3] Φ ∗ bigSepL [4, 5, 6, 7] Φ ∗ bigSepL [8, 9, 10, 11] Φ) ∗ bigSepL order1 Φ ∗ bigSepL order2 Φ) := by
  rw [bigSep_univ_eq_bigSepL (([0, 1, 2, 3] ++ ([4, 5, 6, 7] ++ [8, 9, 10, 11])) ++ (order1 ++ order2)) (by decide) (by decide) Φ,
    bigSepL_append, bigSepL_append, bigSepL_append, bigSepL_append]
/-- The copies of round 0, in the two orders. -/
theorem first_order0 (Φ : Fin 36 → sProp 𝕄) :
    iprop(bigSepL [0, 1, 2, 3] Φ ∗ bigSepL [4, 5, 6, 7] Φ ∗ bigSepL [8, 9, 10, 11] Φ) = bigSepL order0 Φ := by
  rw [← bigSepL_append, ← bigSepL_append, ← bigSep_eq_bigSepL order0 (by decide),
    ← bigSep_eq_bigSepL ([0, 1, 2, 3] ++ ([4, 5, 6, 7] ++ [8, 9, 10, 11]) : List (Fin 36)) (by decide)]
  exact congrArg (fun s => bigSep s Φ) (by decide)

/-- The next copies on the places of round 0 are round 1's, in its order. -/
theorem map_order0 : order0.map nxt = order1 := by decide
/-- The next copies on the places of round 1 are round 2's, in its order. -/
theorem map_order1 : order1.map nxt = order2 := by decide

section Body
variable (c : Dev nD)

/-- An output block may be named by the next copy on its place. -/
theorem oPts_nxt (n : Fin 36) (f : S512x512.Idx → F .f32) : (oPts c (nxt n) f : sProp 𝕄) = oPts c n f := by
  rw [oPts_eq, oPts_eq, rectP_nxt]

/-- The places, named by the last round's copies. -/
theorem places_last (Φ : Fin 36 → sProp 𝕄) (h : ∀ n, Φ (nxt n) = Φ n) :
    (bigSep Finset.univ fun j => Φ (blk0 j)) = bigSepL order2 Φ := by
  rw [← map_order1, bigSepL_map, ← map_order0, bigSepL_map, show (fun n => Φ (nxt (nxt n))) = Φ from funext fun n => by rw [h, h],
    bigSep_univ_eq_bigSepL [0, 4, 8, 1, 5, 9, 2, 6, 10, 3, 7, 11] (by decide) (by decide)]
  rfl

/-! ## The streams -/

/-- The elements of stream `s`. -/
def rowsS (s : Fin 3) : Finset S512x512.Idx := Finset.univ.filter fun i => strOf i = s.val
/-- Stream `s` of the partial-sum buffer, held at contents `f`. -/
def stPts (s : Fin 3) (f : S512x512.Idx → F .bf16) : sProp 𝕄 :=
  ((c : Thread nD τ).loc cc0_scratch0) ↦[rowsS s]{fullShare} f

/-- An element lies in stream `s` when its stream is `s`. -/
theorem mem_rowsS (s : Fin 3) (i : S512x512.Idx) : i ∈ rowsS s ↔ strOf i = s.val := by
  unfold rowsS; rw [Finset.mem_filter]; exact and_iff_right (Finset.mem_univ i)
/-- Different streams share no element. -/
theorem disjS (s s' : Fin 3) (h : s ≠ s') : Disjoint (rowsS s) (rowsS s') :=
  Finset.disjoint_left.mpr fun i hi hi' => h (Fin.ext (((mem_rowsS s i).mp hi).symm.trans ((mem_rowsS s' i).mp hi')))
/-- An element's stream is one of three. -/
theorem strOf_lt (i : S512x512.Idx) : strOf i < 3 := by unfold strOf; split_ifs <;> omega
/-- The streams make up the buffer. -/
theorem coverS (inst : DecidableEq S512x512.Idx) : Finset.univ.biUnion rowsS = Finset.univ :=
  Finset.eq_univ_of_forall fun i => Finset.mem_biUnion.mpr ⟨⟨strOf i, strOf_lt i⟩, Finset.mem_univ _, (mem_rowsS _ i).mpr rfl⟩
/-- A separating conjunction over three, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The partial-sum buffer, stream by stream. -/
theorem stPts_split (f : S512x512.Idx → F .bf16) :
    ((((c : Thread nD τ).loc cc0_scratch0) ↦{fullShare} f) : sProp 𝕄) = iprop(stPts c 0 f ∗ stPts c 1 f ∗ stPts c 2 f) :=
  (Ring.pointsTo_blocks (Val := Elt F) (Ix := Unit) (Name := ℕ) (U := UU) (Lvl := ℕ) (q := fullShare)
    (ℓ := (c : Thread nD τ).loc cc0_scratch0) rowsS disjS (coverS _) f).trans (bigSep_fin3 _)

/-- A stream's places. -/
def grp (s : Fin 3) : Finset (Fin 12) := Finset.univ.filter fun j => j.val / 4 = s.val
/-- A stream's places make up the stream. -/
theorem grp_union (s : Fin 3) (inst : DecidableEq S512x512.Idx) : (grp s).biUnion setP = rowsS s := by
  ext i
  rw [Finset.mem_biUnion, mem_rowsS]
  have hi : (i 1).val < 512 := (i 1).isLt
  constructor
  · rintro ⟨j, hj, hij⟩
    have h1 := (Finset.mem_filter.mp hj).2
    have h2 := (mem_place j i).mp hij
    unfold placeP at h2; omega
  · intro h
    refine ⟨⟨placeP i, placeP_lt i⟩, Finset.mem_filter.mpr ⟨Finset.mem_univ _, ?_⟩, (mem_place _ i).mpr rfl⟩
    show placeP i / 4 = s.val
    unfold placeP; omega

/-- A stream, place by place. -/
theorem stPts_grp (s : Fin 3) (f : S512x512.Idx → F .bf16) :
    (stPts c s f : sProp 𝕄) = bigSep (grp s) fun j => pPts c (blk0 j) f := by
  unfold stPts
  have h := pointsTo_biUnion (nD := nD) (τ := τ) (sig := sig) (Val := Elt F) (Ix := Unit) (Name := ℕ) (U := UU) (Lvl := ℕ)
    (ℓ := (c : Thread nD τ).loc cc0_scratch0) (q := fullShare) (f := f) (grp s) setP (fun t _ t' _ h => disjP t t' h)
  rw [grp_union] at h
  exact h.trans (bigSep_congr fun j _ => (pPts_eq c _ f).symm)

/-- Stream 0 held is its four blocks held. -/
theorem stPts_0 (f : S512x512.Idx → F .bf16) : (stPts c 0 f : sProp 𝕄) = bigSepL [0, 1, 2, 3] fun n => pPts c n f :=
  (stPts_grp c 0 f).trans (bigSep_eq_bigSepL_of_eq [0, 1, 2, 3] (by decide) (by decide) _)
/-- Stream 1 held is its four blocks held. -/
theorem stPts_1 (f : S512x512.Idx → F .bf16) : (stPts c 1 f : sProp 𝕄) = bigSepL [4, 5, 6, 7] fun n => pPts c n f :=
  (stPts_grp c 1 f).trans (bigSep_eq_bigSepL_of_eq [4, 5, 6, 7] (by decide) (by decide) _)
/-- Stream 2 held is its four blocks held. -/
theorem stPts_2 (f : S512x512.Idx → F .bf16) : (stPts c 2 f : sProp 𝕄) = bigSepL [8, 9, 10, 11] fun n => pPts c n f :=
  (stPts_grp c 2 f).trans (bigSep_eq_bigSepL_of_eq [8, 9, 10, 11] (by decide) (by decide) _)

/-- A stream stored: its load reads what nothing uses, its store writes the device's own part. -/
theorem wp_stream (s : Fin 3) (R : Rect S512x512) (st : R.shape.Idx → F .bf16) (hR : R.set = rowsS s)
    (hst : ∀ x, own m c (R.emb x) = st x) {hl : (pM : Memref sig .tc .vmem S512x512 .bf16).view.LoadsAt R.toLoadRect}
    {hx : ((pM : Memref sig .tc .vmem S512x512 .bf16).access R).Stores Finset.univ} {hm : (Finset.univ : Finset R.shape.Idx) = Finset.univ ∨ ∀ a, R.stride a = 1}
    (k : P F) (Q : PUnit → sProp 𝕄) (f : S512x512.Idx → F .bf16) :
    (stPts c s f : sProp 𝕄)
      ⊢ iprop((stPts c s (V m 0 c) -∗ run c k Q)
          -∗ run c (.op (.load pM R.toLoadRect hl) fun _ => .op (.store pM R st Finset.univ hx hm) fun _ => k) Q) := by
  have hset : (pM.access R).set ⊆ rowsS s := by rw [← hR]; exact (View.set_slice_whole cc0_scratch0 R).subset
  unfold stPts
  iintro Hp Hk
  iapply (wp_load_rect 𝒱₀ (c : Thread nD τ) none Set.univ (m := pM) (r := R) (S := rowsS s) hset) $$ Hp
  iintro Hp
  iapply (wp_store 𝒱₀ (c : Thread nD τ) none Set.univ (m := pM) (r := R) (Mk := Finset.univ) (S := rowsS s) hset) $$ Hp
  iintro Hp
  iapply Hk
  ihave Hp := (Entails.of_eq (pointsTo_congr (g := V m 0 c) fun i hi => by
    rw [← hR, ← show (pM.access R).set = R.set from View.set_slice_whole cc0_scratch0 R] at hi
    obtain ⟨x, -, rfl⟩ := Finset.mem_map.mp hi
    rw [View.write_emb_of_mem _ _ (Finset.mem_univ x)]
    exact (hst x).symm)) $$ Hp
  iexact Hp

/-! ## The rounds -/

/-- The three rounds: from the first copies under way to the sums in the output. -/
theorem wp_tail (K : Dev nD × Ci → ℕ) (Q : PUnit → sProp 𝕄) :
    iprop(records m K ∗ levAts L lv
        ∗ (bigSepL order0 (fun n => takeRes c n) ∗ bigSepL order1 (fun n => takeRes c n) ∗ bigSepL order2 (fun n => takeRes c n))
        ∗ bigSepL order0 (fun n => sndCr c n) ∗ bigSepL order1 (fun n => sndRes c n) ∗ bigSepL order2 (fun n => sndRes c n)
        ∗ bigSepL order2 (fun n => iprop(∃ f, oPts c n f)) ∗ ow c (owe c (order1 ++ order2)))
      ⊢ iprop((((bigSepL order0 (fun n => doneRes m c n) ∗ bigSepL order1 (fun n => doneRes m c n) ∗ bigSepL order2 (fun n => doneRes m c n))
            ∗ bigSepL order2 (fun n => pPts c n (V m 2 c)) ∗ bigSepL order2 (fun n => oPts c n (outV m c)) ∗ ow c 0) -∗ Q ⟨⟩)
          -∗ run c (tailP c) Q) := by
  iintro ⟨#HR, #Hlev, ⟨Ht0, Ht1, Ht2⟩, Hc, Hs1, Hs2, Ho, HO⟩ Hk
  unfold tailP
  ihave Hs1 := (Entails.of_eq (show bigSepL order1 (fun n => sndRes c n) = bigSepL order0 (fun n => (sndRes c (nxt n) : sProp 𝕄)) by
    rw [← map_order0, bigSepL_map])) $$ Hs1
  ihave Hs2 := (Entails.of_eq (show bigSepL order2 (fun n => sndRes c n) = bigSepL order1 (fun n => (sndRes c (nxt n) : sProp 𝕄)) by
    rw [← map_order1, bigSepL_map])) $$ Hs2
  iapply (wp_mids m K c order0 order2 (by decide) (by decide)) $$ [Ht0 Hc Hs1 HO]
  · isplitr; · iexact HR
    isplitr; · iexact Hlev
    isplitl [Ht0 Hc Hs1]
    · rw [bigSepL_sep, bigSepL_sep]
      isplitl [Ht0]; · iexact Ht0
      isplitl [Hc] <;> iassumption
    rw [map_order0]; iexact HO
  rw [bigSepL_sep]
  iintro ⟨⟨Hd0, Hc⟩, HO⟩
  ihave Hc := (Entails.of_eq (show bigSepL order0 (fun n => (sndCr c (nxt n) : sProp 𝕄)) = bigSepL order1 (fun n => sndCr c n) by
    rw [← map_order0, bigSepL_map])) $$ Hc
  iapply (wp_mids m K c order1 [] (by decide) (by decide)) $$ [Ht1 Hc Hs2 HO]
  · isplitr; · iexact HR
    isplitr; · iexact Hlev
    isplitl [Ht1 Hc Hs2]
    · rw [bigSepL_sep, bigSepL_sep]
      isplitl [Ht1]; · iexact Ht1
      isplitl [Hc] <;> iassumption
    rw [map_order1, List.append_nil]; iexact HO
  rw [bigSepL_sep]
  iintro ⟨⟨Hd1, Hc⟩, HO⟩
  ihave Hc := (Entails.of_eq (show bigSepL order1 (fun n => (sndCr c (nxt n) : sProp 𝕄)) = bigSepL order2 (fun n => sndCr c n) by
    rw [← map_order1, bigSepL_map])) $$ Hc
  iapply (wp_lasts m K c order2 (by decide) Q) $$ [Ht2 Hc Ho HO]
  · isplitr; · iexact HR
    isplitr; · iexact Hlev
    isplitl [Ht2 Hc Ho]
    · rw [bigSepL_sep, bigSepL_sep]
      isplitl [Ht2]; · iexact Ht2
      isplitl [Hc] <;> iassumption
    iexact HO
  rw [bigSepL_sep, bigSepL_sep]
  iintro ⟨⟨Hp, Hd2, Ho⟩, HO⟩
  iapply Hk
  isplitl [Hd0 Hd1 Hd2]
  · isplitl [Hd0]; · iexact Hd0
    isplitl [Hd1] <;> iassumption
  isplitl [Hp]; · iexact Hp
  isplitl [Ho] <;> iassumption

/-! ## The streams and the rounds -/

/-- The first store's rectangle is stream 0. -/
theorem set_st0 : (Rect.unit (s := S512x512) ![0, 0] S160x512.size inb_S512x512_S160x512_0_0).set = rowsS 0 := by
  ext i
  rw [Rect.mem_set_unit, mem_rowsS, Fin.forall_fin_two]
  have h1 : (i 1).val < 512 := (i 1).isLt
  show (0 ≤ (i 0).val ∧ (i 0).val < 0 + 160) ∧ 0 ≤ (i 1).val ∧ (i 1).val < 0 + 512 ↔ strOf i = 0
  unfold strOf
  constructor
  · intro h; split_ifs <;> omega
  · intro h; split_ifs at h <;> omega
/-- The second store's rectangle is stream 1. -/
theorem set_st1 : (Rect.unit (s := S512x512) ![160, 0] S176x512.size inb_S512x512_S176x512_160_0).set = rowsS 1 := by
  ext i
  rw [Rect.mem_set_unit, mem_rowsS, Fin.forall_fin_two]
  have h1 : (i 1).val < 512 := (i 1).isLt
  show (160 ≤ (i 0).val ∧ (i 0).val < 160 + 176) ∧ 0 ≤ (i 1).val ∧ (i 1).val < 0 + 512 ↔ strOf i = 1
  unfold strOf
  constructor
  · intro h; split_ifs <;> omega
  · intro h; split_ifs at h <;> omega
/-- The third store's rectangle is stream 2. -/
theorem set_st2 : (Rect.unit (s := S512x512) ![336, 0] S176x512.size inb_S512x512_S176x512_336_0).set = rowsS 2 := by
  ext i
  rw [Rect.mem_set_unit, mem_rowsS, Fin.forall_fin_two]
  have h0 : (i 0).val < 512 := (i 0).isLt
  have h1 : (i 1).val < 512 := (i 1).isLt
  show (336 ≤ (i 0).val ∧ (i 0).val < 336 + 176) ∧ 0 ≤ (i 1).val ∧ (i 1).val < 0 + 512 ↔ strOf i = 2
  unfold strOf
  constructor
  · intro h; split_ifs <;> omega
  · intro h; split_ifs at h <;> omega

/-- The device's own part, on the first store's rectangle, is what the store writes. -/
theorem own_st0 (x : S160x512.Idx) :
    own m c ((Rect.unit (s := S512x512) ![0, 0] S160x512.size inb_S512x512_S160x512_0_0).emb x) = st0 m c x := by
  have e0 : (((Rect.unit (s := S512x512) ![0, 0] S160x512.size inb_S512x512_S160x512_0_0).emb x) 0).val = (x 0).val := by
    show 0 + 1 * (x 0).val = _; omega
  have h0 : (x 0).val < 160 := (x 0).isLt
  unfold own
  rw [dif_pos (by rw [e0]; exact h0)]
  congr 1
  funext a
  refine Fin.cases (Fin.ext e0) (fun a => ?_) a
  refine Fin.cases (Fin.ext ?_) (fun a => a.elim0) a
  show 0 + 1 * (x 1).val = (x 1).val; omega
/-- The device's own part, on the second store's rectangle, is what the store writes. -/
theorem own_st1 (x : S176x512.Idx) :
    own m c ((Rect.unit (s := S512x512) ![160, 0] S176x512.size inb_S512x512_S176x512_160_0).emb x) = st1 m c x := by
  have e0 : (((Rect.unit (s := S512x512) ![160, 0] S176x512.size inb_S512x512_S176x512_160_0).emb x) 0).val = 160 + (x 0).val := by
    show 160 + 1 * (x 0).val = _; omega
  have h0 : (x 0).val < 176 := (x 0).isLt
  unfold own
  rw [dif_neg (by rw [e0]; omega), dif_pos (by rw [e0]; omega)]
  congr 1
  funext a
  refine Fin.cases (Fin.ext (by show _ - 160 = _; rw [e0]; omega)) (fun a => ?_) a
  refine Fin.cases (Fin.ext ?_) (fun a => a.elim0) a
  show 0 + 1 * (x 1).val = (x 1).val; omega
/-- The device's own part, on the third store's rectangle, is what the store writes. -/
theorem own_st2 (x : S176x512.Idx) :
    own m c ((Rect.unit (s := S512x512) ![336, 0] S176x512.size inb_S512x512_S176x512_336_0).emb x) = st2 m c x := by
  have e0 : (((Rect.unit (s := S512x512) ![336, 0] S176x512.size inb_S512x512_S176x512_336_0).emb x) 0).val = 336 + (x 0).val := by
    show 336 + 1 * (x 0).val = _; omega
  have h0 : (x 0).val < 176 := (x 0).isLt
  unfold own
  rw [dif_neg (by rw [e0]; omega), dif_neg (by rw [e0]; omega)]
  congr 1
  funext a
  refine Fin.cases (Fin.ext (by show _ - 336 = _; rw [e0]; omega)) (fun a => ?_) a
  refine Fin.cases (Fin.ext ?_) (fun a => a.elim0) a
  show 0 + 1 * (x 1).val = (x 1).val; omega

/-- What the streams and the rounds leave. -/
def rest (c : Dev nD) : sProp 𝕄 :=
  iprop(bigSep Finset.univ (fun n => doneRes m c n) ∗ (((c : Thread nD τ).loc cc0_scratch0) ↦{fullShare} V m 2 c)
    ∗ (((c : Thread nD τ).loc cc0_stg4_0) ↦{fullShare} outV m c) ∗ semVal (barCell c) 0 ∗ ow c 0)

/-- The two duties of each copy, and the positions and the credit of each. -/
def sndTok (c : Dev nD) (n : Fin 36) : sProp 𝕄 :=
  iprop(dutyTok ER (sndCell c n) 0 0 ∗ dutyTok ER (rcvCell (peer n c) n) 0 0)

/-- From the operands read to the end of the body. -/
theorem wp_streams (K : Dev nD × Ci → ℕ) (Q : PUnit → sProp 𝕄) (f : S512x512.Idx → F .bf16) (g : S512x512.Idx → F .f32) :
    iprop(records m K ∗ levAts L lv ∗ atPos ER (barCell c) 0 ∅ 0 ∗ cred (tallyAt (barCell c) () 3)
        ∗ bigSep Finset.univ (fun n => takeRes c n) ∗ bigSep Finset.univ (fun n => sndTok c n)
        ∗ (((c : Thread nD τ).loc cc0_scratch0) ↦{fullShare} f) ∗ (((c : Thread nD τ).loc cc0_stg4_0) ↦{fullShare} g) ∗ ow c (O₃ c))
      ⊢ iprop((rest m c -∗ Q ⟨⟩)
          -∗ run c (streamsP c (ldx m c) (ldw m c) (ldi0 m c) (ldi1 m c) (lde0 m c) (lde1 m c)) Q) := by
  iintro ⟨#HR, #Hlev, Hat, Hcr, Htk, Htok, Hp, Ho, HO⟩ Hk
  ihave ⟨#HIB, -⟩ := (rec_at m K (c, .inl ())) $$ HR
  ihave ⟨Hp0, Hp1, Hp2⟩ := (Entails.of_eq (stPts_split c f)) $$ Hp
  unfold streamsP
  iapply (wp_stream m c 0 (Rect.unit (s := S512x512) ![0, 0] S160x512.size inb_S512x512_S160x512_0_0) (st0 m c) set_st0 (own_st0 m c) _ Q f) $$ Hp0
  iintro Hp0
  unfold ow
  icases HO with ⟨%W, HO⟩
  iapply (Rounds.wp_wait_rest_token 𝒱₀ ER (sched m) (c : Thread nD τ) none (κ := K (c, .inl ()))
      (wpE_semWait_eq 𝒱₀ (c : Thread nD τ) none Set.univ) (Set.mem_univ _) () (O := O₃ c) (W := W) (R := 0) (m := 0) (T := ∅)
      (by rw [expect_bar]; decide)) $$ [Hcr HO Hat]
  · isplitr; · iexact HIB
    isplitl [Hcr]; · iexact Hcr
    isplitl [HO]; · iexact HO
    isplitr
    · iapply (mayWait_owe c (.reg barS) order (fun n _ => by show 1 < 2 + rnd n; omega)); iexact Hlev
    iexact Hat
  iintro ⟨HO, Hat, -, Hpay⟩
  ihave Hpay := (Entails.of_eq ((rest_bar m c).trans (barPay_all c))) $$ Hpay
  imod (Rounds.cell_close ER (sched m) (Set.mem_univ (K (c, .inl ()))) (fun h => h) (R := 0 + 1) (duties_later m (barCell c))) $$ [Hat] with HzB
  · isplitr; · iexact HIB
    iexact Hat
  ihave Hs := (Entails.of_eq (show iprop((bigSep Finset.univ fun n : Fin 36 => iprop(∃ f, rPts (peer n c) n f)) ∗ bigSep Finset.univ (fun n => sndTok c n))
      = (bigSep Finset.univ fun n => (sndRes c n : sProp 𝕄)) from (bigSep_sep' _ _ _).symm)) $$ [Hpay Htok]
  · isplitl [Hpay] <;> iassumption
  ihave ⟨⟨Hs0, Hs1, Hs2⟩, Hs3, Hs4⟩ := (Entails.of_eq (all_sent fun n => (sndRes c n : sProp 𝕄))) $$ Hs
  ihave Hp0 := (Entails.of_eq (stPts_0 c (V m 0 c))) $$ Hp0
  iapply (wp_sends m K c [0, 1, 2, 3] ([4, 5, 6, 7] ++ ([8, 9, 10, 11] ++ (order1 ++ order2))) _ Q) $$ [Hp0 Hs0 HO]
  · isplitr; · iexact HR
    isplitl [Hp0 Hs0]
    · rw [bigSepL_sep]
      isplitl [Hp0]; · iexact Hp0
      iexact Hs0
    unfold ow; iexists _; iexact HO
  iintro ⟨Hc0, HO⟩
  iapply (wp_stream m c 1 (Rect.unit (s := S512x512) ![160, 0] S176x512.size inb_S512x512_S176x512_160_0) (st1 m c) set_st1 (own_st1 m c) _ Q f) $$ Hp1
  iintro Hp1
  ihave Hp1 := (Entails.of_eq (stPts_1 c (V m 0 c))) $$ Hp1
  iapply (wp_sends m K c [4, 5, 6, 7] ([8, 9, 10, 11] ++ (order1 ++ order2)) _ Q) $$ [Hp1 Hs1 HO]
  · isplitr; · iexact HR
    isplitl [Hp1 Hs1]
    · rw [bigSepL_sep]
      isplitl [Hp1]; · iexact Hp1
      iexact Hs1
    iexact HO
  iintro ⟨Hc1, HO⟩
  iapply (wp_stream m c 2 (Rect.unit (s := S512x512) ![336, 0] S176x512.size inb_S512x512_S176x512_336_0) (st2 m c) set_st2 (own_st2 m c) _ Q f) $$ Hp2
  iintro Hp2
  ihave Hp2 := (Entails.of_eq (stPts_2 c (V m 0 c))) $$ Hp2
  iapply (wp_sends m K c [8, 9, 10, 11] (order1 ++ order2) _ Q) $$ [Hp2 Hs2 HO]
  · isplitr; · iexact HR
    isplitl [Hp2 Hs2]
    · rw [bigSepL_sep]
      isplitl [Hp2]; · iexact Hp2
      iexact Hs2
    iexact HO
  iintro ⟨Hc2, HO⟩
  ihave Hc := (Entails.of_eq (first_order0 fun n => (sndCr c n : sProp 𝕄))) $$ [Hc0 Hc1 Hc2]
  · isplitl [Hc0]; · iexact Hc0
    isplitl [Hc1] <;> iassumption
  ihave Htk := (Entails.of_eq (all_taken fun n => (takeRes c n : sProp 𝕄))) $$ Htk
  ihave Ho := (Entails.of_eq ((oPts_split c g).trans (places_last (fun n => oPts c n g) fun n => oPts_nxt c n g))) $$ Ho
  iapply (wp_tail m c K Q) $$ [Htk Hc Hs3 Hs4 Ho HO]
  · isplitr; · iexact HR
    isplitr; · iexact Hlev
    isplitl [Htk]; · iexact Htk
    isplitl [Hc]; · iexact Hc
    isplitl [Hs3]; · iexact Hs3
    isplitl [Hs4]; · iexact Hs4
    isplitl [Ho]
    · iapply (bigSepL_mono (l := order2) (Φ := fun n => oPts c n g) (Ψ := fun n => iprop(∃ f, oPts c n f)) fun n _ => by
        iintro H; iexists g; iexact H)
      iexact Ho
    iexact HO
  iintro ⟨Hd, Hp, Ho, HO⟩
  iapply Hk
  unfold rest
  isplitl [Hd]
  · rw [all_taken]; iexact Hd
  isplitl [Hp]
  · ihave Hp := (Entails.of_eq ((pPts_split c (V m 2 c)).trans (places_last (fun n => pPts c n (V m 2 c)) fun n => pPts_nxt c n _)).symm) $$ Hp
    iexact Hp
  isplitl [Ho]
  · ihave Ho := (Entails.of_eq ((oPts_split c (outV m c)).trans (places_last (fun n => oPts c n (outV m c)) fun n => oPts_nxt c n _)).symm) $$ Ho
    iexact Ho
  isplitl [HzB]; · iexact HzB
  iexact HO

end Body

end Cert.KernelIdeal.Steps
-- ==== Proof.Run.lean ====
module

public import proofs.«01_k».proof.Proof.Body

/-! The body's contract with the pipeline, the launch of the eight devices, and the run. -/

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What a device takes from the launch's ghost state: every cell's record, its own positions, the duties it pays. -/
def ghost (K : Dev nD × Ci → ℕ) (c : Dev nD) : sProp 𝕄 :=
  iprop(records m K ∗ atPos ER (barCell c) 0 ∅ 0
    ∗ (bigSep Finset.univ fun n : Fin 36 => iprop(atPos ER (sndCell c n) 0 ∅ 0 ∗ atPos ER (rcvCell c n) 0 ∅ 0))
    ∗ (bigSep Finset.univ fun k : Fin 3 => dutyTok ER (barCell (part k.val c)) 0 k)
    ∗ bigSep Finset.univ fun n : Fin 36 => sndTok c n)

/-- What the body starts from: that, and the credits the others owe it. -/
def start (c : Dev nD) : sProp 𝕄 :=
  iprop((∃ K, ghost m K c) ∗ cred (tallyAt (barCell c) () 3)
    ∗ (bigSep Finset.univ fun n : Fin 36 => cred (tallyAt (rcvCell c n) () (cr n))) ∗ levAts L lv)

/-- A scratch buffer, whole, at some contents. -/
abbrev some0 (c : Dev nD) : sProp 𝕄 := iprop(∃ f : Buf (Elt F) ((c : Thread nD τ).loc cc0_scratch0), ((c : Thread nD τ).loc cc0_scratch0) ↦{fullShare} f)
abbrev some1 (c : Dev nD) : sProp 𝕄 := iprop(∃ f : Buf (Elt F) ((c : Thread nD τ).loc cc0_scratch1), ((c : Thread nD τ).loc cc0_scratch1) ↦{fullShare} f)

def Φ₀ (c : Dev nD) : sProp 𝕄 := iprop(start m c ∗ some0 c ∗ some1 c)
def Φ₁ (c : Dev nD) : sProp 𝕄 :=
  iprop(some0 c ∗ some1 c ∗ (bigSep Finset.univ fun n : Fin 36 => iprop(semVal (sndCell c n) 0 ∗ semVal (rcvCell c n) 0)) ∗ semVal (barCell c) 0)

/-- The contents of the staged blocks and what is owed, before and after the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wv m c
    | ⟨2, _⟩ => iv m c
    | ⟨3, _⟩ => ev m c
    | ⟨4, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A buffer owned whole is held at contents equal to what is owned. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A separating conjunction over the five windows, written out. -/
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × Ci → ℕ) (c : Dev nD)

def bodyPre : sProp 𝕄 :=
  iprop((ghost m K c ∗ cred (tallyAt (barCell c) () 3)
        ∗ (bigSep Finset.univ fun n : Fin 36 => cred (tallyAt (rcvCell c n) () (cr n))) ∗ levAts L lv ∗ some0 c ∗ some1 c)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost : sProp 𝕄 :=
  iprop(Φ₁ c ∗ (dats m ρ 0 c).owesAt () t0_0.succ ∗ stg c cc0_stg0_0 (xv m c) ∗ stg c cc0_stg1_0 (wv m c) ∗ stg c cc0_stg2_0 (iv m c)
    ∗ stg c cc0_stg3_0 (ev m c) ∗ stg c cc0_stg4_0 (outV m c))

/-- The landing buffer, cut up for the three signals. -/
theorem give_all : (some1 c : sProp 𝕄) ⊢ bigSep Finset.univ fun k : Fin 3 => barPay (part k.val c) k := by
  have h : ∀ n : Fin 36, which n < 3 := by decide
  have e : (bigSep Finset.univ fun n : Fin 36 => iprop(∃ f, rPts c n f))
      = bigSep Finset.univ fun k : Fin 3 => (barPay (part k.val c) k : sProp 𝕄) := by
    unfold barPay
    rw [bigSep_congr (s := Finset.univ) fun (k : Fin 3) _ => bigSep_filter Finset.univ (fun n : Fin 36 => which n = k.val) _, bigSep_univ_comm]
    refine bigSep_congr fun n _ => ?_
    rw [← bigSep_filter Finset.univ (fun k : Fin 3 => which n = k.val) fun k => iprop(∃ f, rPts (part k.val (part k.val c)) n f),
      show (Finset.univ.filter fun k : Fin 3 => which n = k.val) = {⟨which n, h n⟩} from
        Finset.ext fun k => by simp [Fin.ext_iff, eq_comm], bigSep_singleton, part_part]
  rw [← e]
  iintro ⟨%f, Hr⟩
  ihave Hr := (Entails.of_eq (rPts_split c f)) $$ Hr
  ihave Hr := (show (bigSep Finset.univ fun n : Fin 36 => rPts c n f) ⊢ bigSep Finset.univ fun n : Fin 36 => iprop(∃ f, rPts c n f) from
    bigSep_mono fun n _ => by
      show rPts c n f ⊢ iprop(∃ f, rPts c n f)
      iintro H; iexists f; iexact H) $$ Hr
  iexact Hr

set_option maxHeartbeats 800000 in
/-- The body, from `bodyPre` to `bodyPost`. -/
theorem sound_body (Kt : PUnit → sProp 𝕄) :
    iprop(bodyPre m ρ K c ∗ (bodyPost m ρ c -∗ Kt ⟨⟩)) ⊢ run c bodyP Kt := by
  unfold bodyPre ghost bodyP run
  rw [wp_deviceId]
  iintro ⟨⟨⟨⟨#HR, HatB, Hat, HtB, Htok⟩, HcB, HcV, #Hlev, ⟨%f, Hp⟩, Hr⟩,
    Ho, ⟨%d0, %g0, %hg0, Hx⟩, ⟨%d1, %g1, %hg1, Hw⟩, ⟨%d2, %g2, %hg2, Hi⟩, ⟨%d3, %g3, %hg3, He⟩, ⟨%d4, %g4, %hg4, Hout⟩⟩, Hk⟩
  have hx : g0 = xv m c := by rw [hg0]; unfold Dat.before; rw [if_pos (fetch0_0 t0_0)]; rfl
  have hw : g1 = wv m c := by rw [hg1]; unfold Dat.before; rw [if_pos (fetch0_1 t0_0)]; rfl
  have hi : g2 = iv m c := by rw [hg2]; unfold Dat.before; rw [if_pos (fetch0_2 t0_0)]; rfl
  have he : g3 = ev m c := by rw [hg3]; unfold Dat.before; rw [if_pos (fetch0_3 t0_0)]; rfl
  subst hx hw hi he
  unfold Dat.owesAt Pipeline.owesWithin
  icases Ho with ⟨%W, %hW, HO⟩
  rw [show (dats m ρ 0 c).owed t0_0.castSucc = O₀ c from rfl]
  ihave ⟨#HI0, #Hr0⟩ := (rec_at m K (part 0 c, .inl ())) $$ HR
  ihave ⟨#HI1, #Hr1⟩ := (rec_at m K (part 1 c, .inl ())) $$ HR
  ihave ⟨#HI2, #Hr2⟩ := (rec_at m K (part 2 c, .inl ())) $$ HR
  ihave ⟨Hg0, Hg1, Hg2⟩ := ((give_all c).trans (Entails.of_eq (bigSep_fin3 _))) $$ Hr
  ihave ⟨Ht0, Ht1, Ht2⟩ := (Entails.of_eq (bigSep_fin3 fun k : Fin 3 => (dutyTok ER (barCell (part k.val c)) 0 k : sProp 𝕄))) $$ HtB
  iapply (Rounds.wp_signal 𝒱₀ ER (sched m) (c : Thread nD τ) none (dst := (part 0 c : Thread nD τ)) (κ := K (part 0 c, .inl ()))
      (d := 0) (by rw [duties_bar]; exact Finset.mem_univ _) ((amount_bar m (part 0 c) 0).trans (by decide)) () (O₁ c) rfl) $$ [HO Ht0 Hg0]
  · isplitr; · iexact HI0
    isplitl [HO]; · iexact HO
    isplitl [Ht0]; · iexact Ht0
    isplitl [Hg0]; · rw [payload_bar]; iexact Hg0
    iexact Hr0
  iintro HO
  iapply (Rounds.wp_signal 𝒱₀ ER (sched m) (c : Thread nD τ) none (dst := (part 1 c : Thread nD τ)) (κ := K (part 1 c, .inl ()))
      (d := 1) (by rw [duties_bar]; exact Finset.mem_univ _) ((amount_bar m (part 1 c) 1).trans (by decide)) () (O₂ c) rfl) $$ [HO Ht1 Hg1]
  · isplitr; · iexact HI1
    isplitl [HO]; · iexact HO
    isplitl [Ht1]; · iexact Ht1
    isplitl [Hg1]; · rw [payload_bar]; iexact Hg1
    iexact Hr1
  iintro HO
  iapply (Rounds.wp_signal 𝒱₀ ER (sched m) (c : Thread nD τ) none (dst := (part 2 c : Thread nD τ)) (κ := K (part 2 c, .inl ()))
      (d := 2) (by rw [duties_bar]; exact Finset.mem_univ _) ((amount_bar m (part 2 c) 2).trans (by decide)) () (O₃ c) rfl) $$ [HO Ht2 Hg2]
  · isplitr; · iexact HI2
    isplitl [HO]; · iexact HO
    isplitl [Ht2]; · iexact Ht2
    isplitl [Hg2]; · rw [payload_bar]; iexact Hg2
    iexact Hr2
  iintro HO
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_streams m c K Kt f g4) $$ [HatB HcB Hat HcV Htok Hp Hout HO]
  · isplitr; · iexact HR
    isplitr; · iexact Hlev
    isplitl [HatB]; · iexact HatB
    isplitl [HcB]; · iexact HcB
    isplitl [Hat HcV]
    · unfold takeRes
      ihave H := (Entails.of_eq (bigSep_sep' Finset.univ (fun n : Fin 36 => iprop(atPos ER (sndCell c n) 0 ∅ 0 ∗ atPos ER (rcvCell c n) 0 ∅ 0))
        (fun n => (cred (tallyAt (rcvCell c n) () (cr n)) : sProp 𝕄))).symm) $$ [Hat HcV]
      · isplitl [Hat] <;> iassumption
      iapply (show (bigSep Finset.univ fun n : Fin 36 => iprop((atPos ER (sndCell c n) 0 ∅ 0 ∗ atPos ER (rcvCell c n) 0 ∅ 0) ∗ cred (tallyAt (rcvCell c n) () (cr n))))
          ⊢ bigSep Finset.univ fun n : Fin 36 => iprop(atPos ER (sndCell c n) 0 ∅ 0 ∗ atPos ER (rcvCell c n) 0 ∅ 0 ∗ (cred (tallyAt (rcvCell c n) () (cr n)) : sProp 𝕄)) from
        bigSep_mono fun n _ => (show iprop((atPos ER (sndCell c n) 0 ∅ 0 ∗ atPos ER (rcvCell c n) 0 ∅ 0) ∗ cred (tallyAt (rcvCell c n) () (cr n)))
          ⊢ iprop(atPos ER (sndCell c n) 0 ∅ 0 ∗ atPos ER (rcvCell c n) 0 ∅ 0 ∗ (cred (tallyAt (rcvCell c n) () (cr n)) : sProp 𝕄)) from by
            iintro ⟨⟨H1, H2⟩, H3⟩
            isplitl [H1]; · iexact H1
            isplitl [H2] <;> iassumption))
      iexact H
    isplitl [Htok]; · iexact Htok
    isplitl [Hp]; · iexact Hp
    isplitl [Hout]; · iexact Hout
    unfold ow; iexists W; iexact HO
  unfold rest
  iintro ⟨Hd, Hp, Hout, HzB, HO⟩
  iapply Hk
  unfold bodyPost Φ₁ Dat.owesAt Pipeline.owesWithin
  rw [show (dats m ρ 0 c).owed t0_0.succ = 0 from rfl]
  unfold ow doneRes
  icases HO with ⟨%W', HO⟩
  ihave ⟨Hr, Hz⟩ := (Entails.of_eq (bigSep_sep' Finset.univ (fun n : Fin 36 => rPts c n (landed m c n))
    (fun n => iprop(semVal (sndCell c n) 0 ∗ (semVal (rcvCell c n) 0 : sProp 𝕄))))) $$ Hd
  isplitl [Hp Hr Hz HzB]
  · isplitl [Hp]; · iexists _; iexact Hp
    isplitl [Hr]; · iapply (rPts_join c (fun n => landed m c n)); iexact Hr
    isplitl [Hz] <;> iassumption
  isplitl [HO]
  · iexists W'
    isplitr; · ipureintro; exact fun _ _ => Or.inl trivial
    iexact HO
  isplitl [Hx]; · iexists _; isplitr; · (ipureintro; rfl)
                  iexact Hx
  isplitl [Hw]; · iexists _; isplitr; · (ipureintro; rfl)
                  iexact Hw
  isplitl [Hi]; · iexists _; isplitr; · (ipureintro; rfl)
                  iexact Hi
  isplitl [He]; · iexists _; isplitr; · (ipureintro; rfl)
                  iexact He
  iexists _; isplitr; · (ipureintro; rfl)
  iexact Hout

def bodyPre' : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 100000 in
/-- The pipeline's obligation for the body on device `c`. -/
theorem body_obligation : BodyObligation (dats (F := F) m ρ 0 c) (defs₀ (F := F)) 𝒱₀ () Set.univ := fun t => by
  rw [fin_N0 t]
  rw [bigSep_W, bigSep_W]
  simp only [owns_whole_eq]
  show bodyPre' m ρ c ⊢ run c (bodyAt0 t0_0) (fun _ => bodyPost m ρ c)
  rw [body_eq]
  unfold bodyPre' Φ₀ start
  iintro ⟨⟨⟨⟨%K, Hg⟩, H1, H2, H3⟩, H4, H5⟩, Ho, Hw⟩
  iapply (sound_body m ρ K c fun _ => bodyPost m ρ c)
  unfold bodyPre
  isplitr []
  · isplitl [Hg H1 H2 H3 H4 H5]
    · isplitl [Hg]; · iexact Hg
      isplitl [H1]; · iexact H1
      isplitl [H2]; · iexact H2
      isplitl [H3]; · iexact H3
      isplitl [H4] <;> iassumption
    isplitl [Ho] <;> iassumption
  · iintro H; iexact H

end Body

end Cert.KernelIdeal.Steps
-- ==== Proof.Launch.lean ====
module

public import proofs.«01_k».proof.Proof.Run
public import Idealize.ShloMosaic.Lib.Pipeline.CollectiveSegs

/-! The launch of the eight devices — the ghost state minted and dealt, the credits that are owed at the start — and the run. -/

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores: the send and the receive semaphores. -/
abbrev osem (i : Fin 36 ⊕ Fin 36) : SemLoc sig := csem (.inr i)

/-- Different cells of a device have different semaphores. -/
theorem csem_injective : Function.Injective csem := by
  have hq {a b : DmaSem sig} (h : (SemLoc.dma a : SemLoc sig) = .dma b) : a.val = b.val := by injection h with h; rw [h]
  rintro (_ | n | n) (_ | k | k) h
  · rfl
  · cases h
  · cases h
  · cases h
  · have := hq h; rw [snd_val, snd_val] at this; rw [show n = k from Fin.ext (by omega)]
  · have := hq h; rw [snd_val, rcv_val] at this; omega
  · cases h
  · have := hq h; rw [snd_val, rcv_val] at this; omega
  · have := hq h; rw [rcv_val, rcv_val] at this; rw [show n = k from Fin.ext (by omega)]

/-- The kernel's own semaphores are scoped, distinct, and none of the pipeline's. -/
theorem ownSemFacts : Pipeline.OwnSemFacts cfg0.spec osem where
  isScoped := by decide
  inj := fun a b h => Sum.inr_injective (csem_injective h)
  disj := by decide

/-- Every window's array is held whole. -/
theorem share_eq (c : Dev nD) (w : Fin cfg0.W) : (dats m ρ 0 c).share w = fullShare := by unfold Dat.share; split <;> rfl

/-- Different cells have different names. -/
theorem kcell_injective : Function.Injective (kcell : Dev nD × Ci → GSem nD τ sig) := by
  rintro ⟨c, i⟩ ⟨d, j⟩ h
  have h1 : c = d := congrArg (fun g : GSem nD τ sig => g.1.1) h
  have h2 : i = j := csem_injective (congrArg Prod.snd h)
  rw [h1, h2]

def cellSet : Finset (GSem nD τ sig) := Finset.univ.map ⟨kcell, kcell_injective⟩

/-- A device's duty tokens: three at its barrier cell, one at each other cell. -/
abbrev Ti : Type := Fin 3 ⊕ (Fin 36 ⊕ Fin 36)
/-- The cell of a token. -/
def tcell : Ti → Ci
  | .inl _ => .inl ()
  | .inr i => .inr i
/-- The duty of a token. -/
def tduty : Ti → Fin 3
  | .inl k => k
  | .inr _ => 0
abbrev tokOf (p : Dev nD × Ti) : GSem nD τ sig × ℕ × Fin 3 := (kcell (p.1, tcell p.2), 0, tduty p.2)

/-- Different tokens have different names. -/
theorem tokOf_injective : Function.Injective tokOf := by
  rintro ⟨c, i⟩ ⟨d, j⟩ h
  have h1 := kcell_injective (congrArg Prod.fst h)
  have h2 : tduty i = tduty j := congrArg (fun x => x.2.2) h
  have h3 : c = d := congrArg Prod.fst h1
  have h4 : tcell i = tcell j := congrArg Prod.snd h1
  subst h3
  rcases i with k | i <;> rcases j with l | j
  · rw [show k = l from h2]
  · cases h4
  · cases h4
  · rw [show i = j from Sum.inr_injective h4]

def tokSet : Finset (GSem nD τ sig × ℕ × Fin 3) := Finset.univ.map ⟨tokOf, tokOf_injective⟩

/-- The ghost state at launch: the pipeline's, and the protocol's. -/
def u₀ : UU :=
  (initOf (Pipeline.cells cfgs cellOf_inj) (Pipeline.launchToks cfgs cellOf_inj), initOf cellSet tokSet)

/-- The tokens of device `c`'s own cells. -/
def toks (c : Dev nD) : sProp 𝕄 :=
  iprop((bigSep Finset.univ fun k : Fin 3 => dutyTok ER (barCell c) 0 k)
    ∗ (bigSep Finset.univ fun n : Fin 36 => dutyTok ER (sndCell c n) 0 0)
    ∗ bigSep Finset.univ fun n : Fin 36 => dutyTok ER (rcvCell c n) 0 0)

/-- The tokens of the duties device `c` pays. -/
def pays (c : Dev nD) : sProp 𝕄 :=
  iprop((bigSep Finset.univ fun k : Fin 3 => dutyTok ER (barCell (part k.val c)) 0 k) ∗ bigSep Finset.univ fun n : Fin 36 => sndTok c n)

/-- What the launch deals device `c`, for its own cells. -/
def G (c : Dev nD) : sProp 𝕄 :=
  iprop((bigSep Finset.univ fun i : Ci => roundState ER (sched m) (kcell (c, i)) 0)
    ∗ (bigSep Finset.univ fun i : Ci => atPos ER (kcell (c, i)) 0 ∅ 0)
    ∗ (bigSep Finset.univ fun i : Ci => reached ER (kcell (c, i)) 0) ∗ toks c)

def G' (c : Dev nD) : sProp 𝕄 := iprop(∃ K, ghost m K c)

/-- Over all cells is over the devices and each one's cells. -/
theorem cells_eq (Φ : GSem nD τ sig → sProp 𝕄) :
    bigSep cellSet Φ = bigSep Finset.univ fun c : Dev nD => bigSep Finset.univ fun i : Ci => Φ (kcell (c, i)) := by
  unfold cellSet; rw [bigSep_map, bigSep_univ_prod]; rfl

/-- All tokens are each device's tokens. -/
theorem toks_eq : bigSep tokSet (fun x => (dutyTok ER x.1 x.2.1 x.2.2 : sProp 𝕄)) = bigSep Finset.univ fun c : Dev nD => toks c := by
  unfold tokSet; rw [bigSep_map, bigSep_univ_prod]
  exact bigSep_congr fun c _ => by unfold toks; rw [bigSep_univ_sum, bigSep_univ_sum]; rfl

/-- The protocol's ghost state gives every device its cells' states, positions and tokens. -/
theorem fund_all : BI.own (ER (initOf cellSet tokSet)) ⊢ (|==> bigSep Finset.univ (G m) : sProp 𝕄) := by
  iintro HX
  imod (Rounds.fund ER (sched m) cellSet tokSet) $$ HX with ⟨Hst, Hr, Hat, Htok⟩
  imodintro
  ihave Hst := (Entails.of_eq (cells_eq fun g => roundState ER (sched m) g 0)) $$ Hst
  ihave Hat := (Entails.of_eq (cells_eq (F := F) fun g => atPos ER g 0 ∅ 0)) $$ Hat
  ihave Hr := (Entails.of_eq (cells_eq (F := F) fun g => reached ER g 0)) $$ Hr
  ihave Htok := (Entails.of_eq (toks_eq (F := F))) $$ Htok
  unfold G; simp only [bigSep_sep']
  isplitl [Hst]; · iexact Hst
  isplitl [Hat]; · iexact Hat
  isplitl [Hr] <;> iassumption

/-! ## The counters at launch -/

/-- The one counter outside the kernel's scope is the barrier's. -/
theorem unscoped_eq (c : Dev nD) : (unscopedSems0 c : sProp 𝕄) = semVal (barCell c) 0 := by
  unfold unscopedSems0; rw [bigSep_eq_bigSepL_of_eq [SemLoc.reg barS] (by decide) (by decide)]; rfl

/-- The kernel's own counters are the send and the receive counters. -/
theorem own_eq (c : Dev nD) : (Pipeline.ownSems0 (Ix := Unit) (Name := ℕ) (U := UU) (Lvl := ℕ) (Val := Elt F) (τ := τ) osem c : sProp 𝕄)
    = bigSep Finset.univ fun n : Fin 36 => iprop(semVal (sndCell c n) 0 ∗ semVal (rcvCell c n) 0) := by
  unfold Pipeline.ownSems0; rw [bigSep_univ_sum, bigSep_sep']; rfl

/-- The counters at launch are one for each cell. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun i : Ci => semVal (kcell (c, i)) 0 : sProp 𝕄) := by
  have e : (bigSep Finset.univ fun i : Ci => semVal (kcell (c, i)) 0 : sProp 𝕄)
      = iprop(semVal (barCell c) 0 ∗ Pipeline.ownSems0 (Ix := Unit) (Name := ℕ) (U := UU) (Lvl := ℕ) (Val := Elt F) (τ := τ) osem c) := by
    rw [bigSep_univ_sum, show (Finset.univ : Finset Unit) = {()} from rfl, bigSep_singleton]; rfl
  rw [e, unscoped_eq]
  iintro ⟨H1, H2⟩
  isplitl [H2] <;> iassumption

/-- Every cell of a device under an invariant, at a name of its own. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Ci => iprop(∃ κ : ℕ, cellInv ER (sched m) κ (kcell (c, i))))
          ∗ (bigSep Finset.univ fun i : Ci => atPos ER (kcell (c, i)) 0 ∅ 0)
          ∗ (bigSep Finset.univ fun i : Ci => reached ER (kcell (c, i)) 0) ∗ toks c) := by
  unfold G
  iintro ⟨Hos, Hus, Hst, Hrest⟩
  ihave Hv := (counters (F := F) c) $$ [Hos Hus]
  · isplitl [Hos] <;> iassumption
  imod (show iprop((bigSep Finset.univ fun i : Ci => semVal (kcell (c, i)) 0) ∗ bigSep Finset.univ fun i : Ci => roundState ER (sched m) (kcell (c, i)) 0)
      ⊢ (|={Set.univ}=> bigSep Finset.univ fun i : Ci => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  iexact Hrest

/-! ## Tokens to the devices that pay -/

/-- Tokens indexed by device and duty, each moved to the partner of its duty. -/
theorem moved {I : Type} [Fintype I] (k : I → Nat) (Φ : Dev nD → I → sProp 𝕄) :
    (bigSep Finset.univ fun c : Dev nD => bigSep Finset.univ fun i : I => Φ c i)
      = bigSep Finset.univ fun c : Dev nD => bigSep Finset.univ fun i : I => Φ (part (k i) c) i := by
  rw [bigSep_univ_comm, bigSep_univ_comm (fun (c : Dev nD) (i : I) => Φ (part (k i) c) i)]
  exact bigSep_congr fun i _ => bigSep_univ_equiv (partE (k i)) fun c => Φ c i

/-- The tokens of a device's cells go to the partners that pay. -/
theorem dealt : (bigSep Finset.univ fun c : Dev nD => (toks c : sProp 𝕄)) ⊢ bigSep Finset.univ fun c : Dev nD => pays c := by
  refine Entails.of_eq ?_
  unfold toks pays sndTok
  simp only [bigSep_sep']
  rw [moved (fun k : Fin 3 => k.val) fun c k => (dutyTok ER (barCell c) 0 k : sProp 𝕄),
    moved which fun c n => (dutyTok ER (rcvCell c n) 0 0 : sProp 𝕄)]

/-- A device's positions, its cells told apart. -/
theorem pos_eq (c : Dev nD) : (bigSep Finset.univ fun i : Ci => (atPos ER (kcell (c, i)) 0 ∅ 0 : sProp 𝕄))
    = iprop(atPos ER (barCell c) 0 ∅ 0 ∗ bigSep Finset.univ fun n : Fin 36 => iprop(atPos ER (sndCell c n) 0 ∅ 0 ∗ atPos ER (rcvCell c n) 0 ∅ 0)) := by
  rw [bigSep_univ_sum, show (Finset.univ : Finset Unit) = {()} from rfl, bigSep_singleton, bigSep_univ_sum, bigSep_sep']; rfl

/-- Records, positions and the tokens to pay are a device's ghost state. -/
theorem ghost_intro (K : Dev nD × Ci → ℕ) (c : Dev nD) :
    iprop(records m K ∗ (bigSep Finset.univ fun i : Ci => atPos ER (kcell (c, i)) 0 ∅ 0) ∗ pays c) ⊢ G' m c := by
  rw [pos_eq]
  unfold pays G' ghost
  iintro ⟨HR, ⟨HB, HN⟩, H1, H2⟩
  iexists K
  isplitl [HR]; · iexact HR
  isplitl [HB]; · iexact HB
  isplitl [HN]; · iexact HN
  isplitl [H1] <;> iassumption

/-- From each device's own allocation, every device's ghost state. -/
theorem regroup :
    (bigSep Finset.univ fun c : Dev nD => iprop((bigSep Finset.univ fun i : Ci => iprop(∃ κ : ℕ, cellInv ER (sched m) κ (kcell (c, i))))
          ∗ (bigSep Finset.univ fun i : Ci => atPos ER (kcell (c, i)) 0 ∅ 0)
          ∗ (bigSep Finset.univ fun i : Ci => reached ER (kcell (c, i)) 0) ∗ toks c) : sProp 𝕄)
      ⊢ bigSep Finset.univ (G' m) := by
  rw [bigSep_sep', bigSep_sep', bigSep_sep', ← bigSep_univ_prod (fun p : Dev nD × Ci => iprop(∃ κ : ℕ, cellInv ER (sched m) κ (kcell p))),
    ← bigSep_univ_prod (fun p : Dev nD × Ci => (reached ER (kcell p) 0 : sProp 𝕄))]
  iintro ⟨HI, Hat, HR, Htok⟩
  ihave HK := (BI.bigSep_exists_pi Finset.univ (fun (p : Dev nD × Ci) (κ : ℕ) => (cellInv ER (sched m) κ (kcell p) : sProp 𝕄))) $$ HI
  icases HK with ⟨%K, HI⟩
  ihave Htk := (dealt (F := F)) $$ Htok
  iapply (BI.bigSep_with_persistent (R := records m K) fun c _ => ghost_intro m K c)
  isplitl [HI HR]
  · unfold records; rw [bigSep_sep']; isplitl [HI] <;> iassumption
  · rw [bigSep_sep']; isplitl [Hat] <;> iassumption

/-- The launch's step over all devices: invariants allocated and tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credits at launch -/

/-- What the copies owe, as a sum over the copies. -/
theorem owe_sum (c : Dev nD) : O₃ c = ∑ n : Fin 36, tallyAt (rcvCell (peer n c) n) () (cr n) := by
  have h : ∀ l : List (Fin 36), owe c l = (l.map fun n => (tallyAt (rcvCell (peer n c) n) () (cr n) : CellTallies nD τ sig Unit)).sum := by
    intro l
    induction l with
    | nil => rfl
    | cons n l ih => unfold owe; rw [ih, List.map_cons, List.sum_cons, add_comm]
  unfold O₃
  rw [h, ← List.sum_toFinset _ (by decide), show order.toFinset = Finset.univ from by decide]

/-- The credits at launch, for a device's barrier and receive cells. -/
theorem creds (c : Dev nD) :
    (Pipeline.launchCred O₀ c : sProp 𝕄) ⊢ iprop(cred (tallyAt (barCell c) () 3) ∗ bigSep Finset.univ fun n : Fin 36 => cred (tallyAt (rcvCell c n) () (cr n))) := by
  have e : (O₀ : Dev nD → CellTallies nD τ sig Unit) = fun d => (((∑ n : Fin 36, tallyAt (rcvCell (peer n d) n) () (cr n))
      + tallyAt (barCell (part 2 d)) () 1) + tallyAt (barCell (part 1 d)) () 1) + tallyAt (barCell (part 0 d)) () 1 :=
    funext fun d => by unfold O₀ O₁ O₂; rw [owe_sum]
  have hb (k : Nat) : (Pipeline.launchCred (fun d => tallyAt (barCell (part k d)) () 1) c : sProp 𝕄) ⊢ cred (tallyAt (barCell c) () 1) :=
    Pipeline.launchCred_tallyAt (.reg barS) (part k) (part k) (part_part k) (part_part k) () 1 c
  have hr : (bigSep Finset.univ fun n : Fin 36 => (Pipeline.launchCred (fun d => tallyAt (rcvCell (peer n d) n) () (cr n)) c : sProp 𝕄))
      ⊢ bigSep Finset.univ fun n : Fin 36 => cred (tallyAt (rcvCell c n) () (cr n)) :=
    bigSep_mono fun n _ => Pipeline.launchCred_tallyAt (.dma (rcvS n).sem) (peer n) (peer n) (peer_peer n) (peer_peer n) () (cr n) c
  have ha (a b : ℕ) : iprop(cred (tallyAt (barCell c) () a) ∗ cred (tallyAt (barCell c) () b)) ⊢ (cred (tallyAt (barCell c) () (a + b)) : sProp 𝕄) := by
    rw [← tallyAt_add]; exact (cred_add _ _).2
  rw [e, Pipeline.launchCred_add, Pipeline.launchCred_add, Pipeline.launchCred_add, Pipeline.launchCred_sum]
  iintro ⟨⟨⟨HV, H2⟩, H1⟩, H0⟩
  ihave H2 := (hb 2) $$ H2
  ihave H1 := (hb 1) $$ H1
  ihave H0 := (hb 0) $$ H0
  isplitr [HV]
  · ihave H := (ha 1 1) $$ [H2 H1]
    · isplitl [H2] <;> iassumption
    iapply (ha 2 1)
    isplitl [H] <;> iassumption
  · iapply hr; iexact HV

/-! ## The launch theorem's side conditions -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave ⟨H1, HN⟩ := (creds (F := F) c) $$ Hcr
  imodintro
  unfold start G'
  isplitl
  · isplitl [HG]; · iexact HG
    isplitl [H1]; · iexact H1
    isplitl [HN] <;> iassumption
  · iempintro

/-- With the scratch buffers it is the body's precondition. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0] <;> iassumption

/-- After the body the counters read zero and the scratch buffers are returned. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_eq, unscoped_eq]
  unfold Φ₁
  iintro ⟨H0, H1, Hz, HzB⟩
  isplitl [HzB]; · iexact HzB
  isplitl [Hz]; · iexact Hz
  isplitl [H0] <;> iassumption

/-- The pipeline's own waits lie below everything that is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array on device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Over any float values and from any memory with every counter at zero, every weakly fair execution of the eight devices'
    programs ends, with every window's array at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four operands' arrays keep their contents. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.KernelIdeal.Steps
-- ==== Proof.Frames.lean ====
module

public import proofs.«01_k».proof.Defs
public import proofs.«01_k».proof.Proof.Gen.Kernel
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Launch

/-! The frames: a run ends, leaves the arguments as they were, and every counter at zero. -/

@[expose] public section

noncomputable section

namespace Cert.KernelIdeal.Steps

open Cert.KernelIdeal Cert.KernelIdeal.Gen
open Idealize.ShloMosaic Idealize.ShloMosaic.TcCoe
open Idealize.SL Idealize.SL.Sem

variable {F : FTy → Type} [FloatOps F]

section Ends
variable (m : (ℓ : Loc nD τ sig) → Buf (Elt F) ℓ) (ρ : Dev nD → PrngReg)

/-- The four argument arrays of device `c` hold in `s` what they held in `m`. -/
def Kept (s : (ℓ : Loc nD τ sig) → Buf (Elt F) ℓ) (c : Dev nD) : Prop :=
  s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)

/-- The arrays of the four input windows are the arguments: at the end of the run they are as at its start. -/
theorem kept_of_QC {r : PUnit × MemSt nD τ sig (Elt F)} (h : QC m ρ r) (c : Dev nD) : Kept m r.2.mem c :=
  ⟨(h c (0 : Fin 5)).trans (finalA_in m ρ c (0 : Fin 5) rfl), (h c (1 : Fin 5)).trans (finalA_in m ρ c (1 : Fin 5) rfl),
    (h c (2 : Fin 5)).trans (finalA_in m ρ c (2 : Fin 5) rfl), (h c (3 : Fin 5)).trans (finalA_in m ρ c (3 : Fin 5) rfl)⟩

/-- The output window's one block, read back from its array at the end, is what the body left in the staging buffer. -/
theorem read_finalA (c : Dev nD) : (win0_4.blk (0 : Fin 1)).view.read (Elt F) (finalA m ρ c (4 : Fin 5)) = outV m c := by
  unfold finalA
  rw [show cfg0.N = ((0 : Fin 1) : Fin cfg0.N).val + 1 from rfl, (dats m ρ 0 c).arrAt_succ (4 : Fin 5) (0 : Fin 1),
    show (cfg0.win (4 : Fin 5)).flush (0 : Fin 1) = true from by decide, if_pos rfl]
  exact View.read_write_univ _ _

end Ends

/-- Over any float values, the kernel ends with its arguments as they were and its counters at zero. -/
theorem frame_any (m : (ℓ : Loc nD τ sig) → Buf (Elt F) ℓ) (ρ : Dev nD → PrngReg) :
    θ_run defs (onTc (τ := τ) (main (F := F))) ⟨m, fun _ => 0, ρ⟩ (fun r => (∀ c, Kept m r.2.mem c) ∧ r.2.sem = fun _ => 0) :=
  (θ_run defs _ _).mono (fun _ h => ⟨fun c => kept_of_QC m ρ h.1 c, h.2⟩) (run_main (F := F) m ρ)

/-- The two printed programs have the same bodies. -/
theorem bodies_same : (Kernel.defs₀ (F := F) : Defs nD τ sig (Elt F) Λ₀) = defs₀ := by
  unfold Kernel.defs₀ KernelIdeal.defs₀
  refine congrArg Defs.onTc (funext fun l => funext fun a => ?_)
  match l with
  | ⟨0, _⟩ => exact rfl

/-- The two printed programs have the same definitions. -/
theorem defs_same : (Kernel.defs (F := F) : Defs nD τ sig (Elt F) (Pipeline.Sig Λ₀ (Fin 1) fun p => (pcfgs (F := F) p).Adm)) = defs :=
  congrArg (Pipeline.defs pcfgs) bodies_same

/-- The kernel over bit patterns: it ends, its arguments as they were and its counters at zero. -/
theorem frame_kernel : Cert.quiescent_Kernel := by
  intro m ρ _
  have h := frame_any (F := Bits) m ρ
  rw [← defs_same] at h
  exact h

/-- The kernel over real numbers: it ends, its arguments as they were and its counters at zero. -/
theorem frame_ideal : Cert.quiescent_KernelIdeal := fun m ρ _ => frame_any (F := Ideal) m ρ

/-- The same under the precondition. -/
theorem frame_ideal_routed : Cert.quiescent_KernelIdeal_pre_routed_KernelIdeal := fun m ρ _ => frame_ideal m ρ trivial

/-- The reference over real numbers: it ends, its arguments as they were; it has no counters. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition. -/
theorem frame_ref_routed : Cert.quiescent_ReferenceIdeal_pre_routed_ReferenceIdeal := fun m ρ _ => frame_ref m ρ trivial

end Cert.KernelIdeal.Steps
-- ==== Proof.Mix.lean ====
module

public import Idealize.ShloMosaic.PureOps.Ideal
public import Mathlib.Data.EReal.Inv

/-! The mixture of experts over extended real numbers, for one token.

`score`, `prob` and `share` are the router: a token's scores, their softmax, and the share of one of two chosen experts.
`mix_experts` is the law the kernel rests on: a share put on the token before the product with an expert's matrix is the
share times that product, and an expert that was not chosen gives nothing. -/

@[expose] public section

noncomputable section

namespace Cert.Mix

open Idealize.ShloMosaic

/-! ## The router -/

section Router
variable (x : Fin 256 → EReal) (w : Fin 256 → Fin 16 → EReal)

/-- The token's score for expert `e`. -/
def score (e : Fin 16) : EReal := ∑ k, x k * w k e
/-- The greatest score. -/
def peak : EReal := Finset.fold max (Ideal.ofBits .f32 0xFF800000#32) (score x w) Finset.univ
/-- The softmax of the scores. -/
def prob (e : Fin 16) : EReal :=
  Ideal.div (Ideal.exp (score x w e - peak x w)) (∑ e', Ideal.exp (score x w e' - peak x w))
/-- Expert `a`'s share of the pair `(a, b)`. -/
def share (a b : Fin 16) : EReal := Ideal.div (prob x w a) (prob x w a + prob x w b)
/-- Expert `b`'s share of the pair `(a, b)`. -/
def share' (a b : Fin 16) : EReal := Ideal.div (prob x w b) (prob x w a + prob x w b)
end Router

/-- The bits of minus infinity. -/
theorem ofBits_neg_inf : Ideal.ofBits .f32 0xFF800000#32 = ⊥ := by
  unfold Ideal.ofBits Ideal.ieee
  simp

/-- A maximum over a list that starts at minus infinity is one of the list's values, if there is one. -/
theorem fold_max_mem {ι : Type} [DecidableEq ι] (f : ι → EReal) (s : Finset ι) :
    Finset.fold max ⊥ f s = ⊥ ∨ ∃ i, Finset.fold max ⊥ f s = f i := by
  induction s using Finset.induction_on with
  | empty => left; rfl
  | insert a s ha ih =>
    rw [Finset.fold_insert ha]
    rcases le_total (f a) (Finset.fold max ⊥ f s) with h | h
    · rw [max_eq_right h]; exact ih
    · rw [max_eq_left h]; exact Or.inr ⟨a, rfl⟩

/-- A sum of real numbers, as extended real numbers. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division of real numbers, the divisor not zero. -/
theorem div_coe (a b : ℝ) (hb : b ≠ 0) : Ideal.div (a : EReal) (b : EReal) = ((a / b : ℝ) : EReal) := by
  unfold Ideal.div
  rw [if_neg (by simpa using hb), div_eq_mul_inv, EReal.coe_mul, EReal.coe_inv]

/-- With real operands every softmax value is a positive real number. -/
theorem prob_pos {x : Fin 256 → EReal} {w : Fin 256 → Fin 16 → EReal} (hx : ∀ k, ∃ r : ℝ, x k = r)
    (hw : ∀ k e, ∃ r : ℝ, w k e = r) (e : Fin 16) : ∃ p : ℝ, 0 < p ∧ prob x w e = p := by
  choose X hX using hx
  choose W hW using hw
  have hs : ∀ e, score x w e = ((∑ k, X k * W k e : ℝ) : EReal) := fun e => by
    unfold score
    rw [← coe_sum]
    exact Finset.sum_congr rfl fun k _ => by rw [hX, hW, EReal.coe_mul]
  have hp : ∃ M : ℝ, peak x w = M := by
    unfold peak
    rw [ofBits_neg_inf]
    rcases fold_max_mem (score x w) Finset.univ with h | ⟨i, h⟩
    · exfalso
      have hle : score x w 0 ≤ Finset.fold max ⊥ (score x w) Finset.univ :=
        (Finset.le_fold_max _).2 (Or.inr ⟨0, Finset.mem_univ _, le_rfl⟩)
      rw [h, hs] at hle
      exact absurd (le_bot_iff.1 hle) (EReal.coe_ne_bot _)
    · exact ⟨_, h.trans (hs i)⟩
  obtain ⟨M, hM⟩ := hp
  have he : ∀ e, Ideal.exp (score x w e - peak x w) = ((Real.exp ((∑ k, X k * W k e) - M) : ℝ) : EReal) := fun e => by
    rw [hs, hM, ← EReal.coe_sub]; rfl
  have hpos : 0 < ∑ e', Real.exp ((∑ k, X k * W k e') - M) :=
    Finset.sum_pos (fun _ _ => Real.exp_pos _) Finset.univ_nonempty
  refine ⟨Real.exp ((∑ k, X k * W k e) - M) / ∑ e', Real.exp ((∑ k, X k * W k e') - M), div_pos (Real.exp_pos _) hpos, ?_⟩
  unfold prob
  rw [he, ← div_coe _ _ hpos.ne', ← coe_sum]
  exact congrArg _ (Finset.sum_congr rfl fun e' _ => he e')

/-- With real operands the shares are real numbers that are not negative. -/
theorem share_nonneg {x : Fin 256 → EReal} {w : Fin 256 → Fin 16 → EReal} (hx : ∀ k, ∃ r : ℝ, x k = r)
    (hw : ∀ k e, ∃ r : ℝ, w k e = r) (a b : Fin 16) :
    (0 ≤ share x w a b ∧ share x w a b ≠ ⊤) ∧ 0 ≤ share' x w a b ∧ share' x w a b ≠ ⊤ := by
  obtain ⟨p, hp, ep⟩ := prob_pos hx hw a
  obtain ⟨q, hq, eq⟩ := prob_pos hx hw b
  have h1 : share x w a b = ((p / (p + q) : ℝ) : EReal) := by
    unfold share; rw [ep, eq, ← EReal.coe_add, div_coe _ _ (add_pos hp hq).ne']
  have h2 : share' x w a b = ((q / (p + q) : ℝ) : EReal) := by
    unfold share'; rw [ep, eq, ← EReal.coe_add, div_coe _ _ (add_pos hp hq).ne']
  rw [h1, h2]
  exact ⟨⟨EReal.coe_nonneg.2 (div_pos hp (add_pos hp hq)).le, EReal.coe_ne_top _⟩,
    EReal.coe_nonneg.2 (div_pos hq (add_pos hp hq)).le, EReal.coe_ne_top _⟩

/-! ## The experts -/

/-- A real factor that is not negative goes over a sum. -/
theorem mul_sum_of_nonneg {ι : Type} (s : Finset ι) (c : EReal) (h0 : 0 ≤ c) (h1 : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- What the token puts on expert `e`: `u` if `e` is its first expert, `v` if it is its second. -/
def pick (a b : Fin 16) (u v : EReal) (e : Fin 16) : EReal := (if a = e then u else 0) + (if b = e then v else 0)

/-- What expert `e` adds to one entry of the result: the token, scaled by `pick`, against a column of the expert's matrix. -/
def part (x : Fin 256 → EReal) (a b : Fin 16) (u v : EReal) (E : Fin 16 → Fin 256 → EReal) (e : Fin 16) : EReal :=
  ∑ k, x k * pick a b u v e * E e k

/-- An expert's part is the share times the product where the expert is chosen, and zero where it is not. -/
theorem part_eq (x : Fin 256 → EReal) (a b : Fin 16) {u v : EReal} (hu : 0 ≤ u ∧ u ≠ ⊤) (hv : 0 ≤ v ∧ v ≠ ⊤)
    (E : Fin 16 → Fin 256 → EReal) (e : Fin 16) :
    part x a b u v E e = (if a = e then u * ∑ k, x k * E e k else 0) + (if b = e then v * ∑ k, x k * E e k else 0) := by
  have hu' : 0 ≤ (if a = e then u else 0) ∧ (if a = e then u else 0) ≠ ⊤ := by
    split
    · exact hu
    · exact ⟨le_rfl, EReal.zero_ne_top⟩
  have hv' : 0 ≤ (if b = e then v else 0) ∧ (if b = e then v else 0) ≠ ⊤ := by
    split
    · exact hv
    · exact ⟨le_rfl, EReal.zero_ne_top⟩
  have hp : 0 ≤ pick a b u v e ∧ pick a b u v e ≠ ⊤ :=
    ⟨add_nonneg hu'.1 hv'.1, EReal.add_ne_top hu'.2 hv'.2⟩
  unfold part
  rw [Finset.sum_congr rfl fun k _ => show x k * pick a b u v e * E e k = pick a b u v e * (x k * E e k) by
    rw [mul_comm (x k), mul_assoc], ← mul_sum_of_nonneg _ _ hp.1 hp.2]
  unfold pick
  rw [EReal.right_distrib_of_nonneg hu'.1 hv'.1, ite_mul, ite_mul, zero_mul]

/-- All sixteen experts together: the two chosen experts' products, each times its share. -/
theorem mix_experts (x : Fin 256 → EReal) (a b : Fin 16) {u v : EReal} (hu : 0 ≤ u ∧ u ≠ ⊤) (hv : 0 ≤ v ∧ v ≠ ⊤)
    (E : Fin 16 → Fin 256 → EReal) :
    ∑ e, part x a b u v E e = u * (∑ k, x k * E a k) + v * ∑ k, x k * E b k := by
  rw [Finset.sum_congr rfl fun e _ => part_eq x a b hu hv E e, Finset.sum_add_distrib, Finset.sum_ite_eq, Finset.sum_ite_eq,
    if_pos (Finset.mem_univ _), if_pos (Finset.mem_univ _)]

/-- The first and the second expert of a device. -/
def first (d : Fin 8) : Fin 16 := ⟨2 * d.val, by omega⟩
def second (d : Fin 8) : Fin 16 := ⟨2 * d.val + 1, by omega⟩

/-- A sum over sixteen experts, two to a device. -/
theorem sum_by_device (f : Fin 16 → EReal) : ∑ d : Fin 8, (f (first d) + f (second d)) = ∑ e, f e := by
  rw [Fin.sum_univ_eight]
  simp only [Fin.sum_univ_succ (n := 15), Fin.sum_univ_succ (n := 14), Fin.sum_univ_succ (n := 13), Fin.sum_univ_succ (n := 12),
    Fin.sum_univ_succ (n := 11), Fin.sum_univ_succ (n := 10), Fin.sum_univ_succ (n := 9), Fin.sum_univ_succ (n := 8), Fin.sum_univ_eight]
  simp only [first, second, add_assoc]
  rfl

end Cert.Mix
-- ==== Proof.Partial.lean ====
module

public import proofs.«01_k».proof.Proof.Steps
public import proofs.«01_k».proof.Proof.Mix
public import Idealize.ShloMosaic.Lib.Pointwise

/-! What the kernel's body stores, read at an index over extended real numbers: a device's own partial result at row `R`
and column `f` is the sum of its two experts' parts (`Mix.part`), whatever stream the row lies in. -/

@[expose] public section

noncomputable section

namespace Cert.KernelIdeal.Steps

open Cert.KernelIdeal Cert.KernelIdeal.Gen Cert.Mix
open Idealize.ShloMosaic Idealize.ShloMosaic.TcCoe

/-! ## Words of small numbers -/

/-- Two expert numbers are the same word exactly when they are the same number. -/
theorem select_word (a e : Fin 16) (u : EReal) :
    Scalar.select (IntOp.cmpi .eq (BitVec.ofNat 32 a.val) (BitVec.ofNat 32 e.val)) u 0 = if a = e then u else 0 := by
  by_cases h : a = e
  · subst h
    rw [if_pos rfl, show IntOp.cmpi .eq (BitVec.ofNat 32 a.val) (BitVec.ofNat 32 a.val) = 1#1 by simp [IntOp.cmpi]]
    rfl
  · have hne : BitVec.ofNat 32 a.val ≠ BitVec.ofNat 32 e.val := fun hc => h (by
      have := congrArg BitVec.toNat hc
      simp only [BitVec.toNat_ofNat] at this
      exact Fin.ext (by omega))
    rw [if_neg h, show IntOp.cmpi .eq (BitVec.ofNat 32 a.val) (BitVec.ofNat 32 e.val) = 0#1 by
      unfold IntOp.cmpi; rw [beq_eq_false_iff_ne.2 hne]; rfl]
    rfl

/-- A sum against the one-hot of `a` is the entry at `a`. -/
theorem sum_onehot (a : Fin 16) (f : Fin 16 → EReal) :
    ∑ e : Fin 16, Scalar.select (IntOp.cmpi .eq (BitVec.ofNat 32 a.val) (BitVec.ofNat 32 e.val)) (f e) 0 = f a := by
  rw [Finset.sum_congr rfl fun e _ => select_word a e (f e), Finset.sum_ite_eq, if_pos (Finset.mem_univ _)]

/-- The words the body compares with are the numbers of the device's two experts. -/
theorem fst_word (d : Dev nD) : Scalar.addi (fst d) 0#32 = BitVec.ofNat 32 (first d).val := by revert d; decide
/-- The second expert's number likewise. -/
theorem snd_word (d : Dev nD) : Scalar.addi (fst d) 1#32 = BitVec.ofNat 32 (second d).val := by revert d; decide

/-! ## The router -/

section Rows
variable (x : Vec Ideal S512x256 .f32) (w : Vec Ideal S256x16 .f32)

/-- Row `R` of the tokens. -/
abbrev tok (R : Fin 512) : Fin 256 → EReal := fun k => x (ix2 R k)
/-- The router's matrix. -/
abbrev rtr : Fin 256 → Fin 16 → EReal := fun k e => w (ix2 k e)

/-- The body's softmax, read at an index. -/
theorem pay2_apply (R : Fin 512) (e : Fin 16) : k0_pay2 x w (ix2 R e) = prob (tok x R) (rtr w) e := by
  pointwise [k0_pay2, k0_pay1]
  rfl

variable {x w} {i0 i1 : Vec Ideal S512x1 .i32} {R : Fin 512} {a b : Fin 16}
  (h0 : i0 (ix2 R 0) = BitVec.ofNat 32 a.val) (h1 : i1 (ix2 R 0) = BitVec.ofNat 32 b.val)

include h0 h1 in
/-- The first share, read at a row. -/
theorem wt0_apply : k0_pay8 (k0_pay2 x w) i0 i1 (ix2 R 0) = share (tok x R) (rtr w) a b := by
  pointwise [k0_pay8, k0_pay7, k0_pay5, k0_pay6]
  rw [h0, h1, sum_onehot, sum_onehot, pay2_apply, pay2_apply]
  rfl

include h0 h1 in
/-- The second share, read at a row. -/
theorem wt1_apply : k0_pay9 (k0_pay2 x w) i0 i1 (ix2 R 0) = share' (tok x R) (rtr w) a b := by
  pointwise [k0_pay9, k0_pay7, k0_pay5, k0_pay6]
  rw [h0, h1, sum_onehot, sum_onehot, pay2_apply, pay2_apply]
  rfl

/-! ## The streams -/

variable {d : Dev nD} {e0 e1 : Vec Ideal S1x256x512 .f32} {f : Fin 512} {E : Fin 16 → Fin 256 → EReal}
  (hE0 : ∀ k, e0 (ix3 0 k f) = E (first d) k) (hE1 : ∀ k, e1 (ix3 0 k f) = E (second d) k)

/-- Device `d`'s two experts' parts at row `R`, the column read through `E`. -/
abbrev pair (x : Vec Ideal S512x256 .f32) (w : Vec Ideal S256x16 .f32) (R : Fin 512) (a b : Fin 16)
    (E : Fin 16 → Fin 256 → EReal) (d : Fin 8) : EReal :=
  Mix.part (tok x R) a b (share (tok x R) (rtr w) a b) (share' (tok x R) (rtr w) a b) E (first d)
    + Mix.part (tok x R) a b (share (tok x R) (rtr w) a b) (share' (tok x R) (rtr w) a b) E (second d)

include h0 h1 hE0 hE1 in
/-- The first stream at an index is the device's pair of parts. -/
theorem stream0_apply (r : Fin 160) (hR : R.val = r.val) : stream0 d x w i0 i1 e0 e1 (ix2 r f) = pair x w R a b E d := by
  pointwise [stream0, k0_pay19, k0_pay18, k0_pay17, k0_pay16, k0_pay15, k0_pay14, k0_pay13, k0_pay12, k0_pay11, k0_pay10,
    k0_pay3, k0_pay4, k0_pay1]
  have hi : (⟨r.val, by omega⟩ : Fin 512) = R := Fin.ext hR.symm
  simp only [hi]
  rw [h0, h1, show Scalar.muli (devW d) 2#32 = fst d from rfl,
    fst_word, snd_word, wt0_apply h0 h1, wt1_apply h0 h1]
  simp only [select_word, hE0, hE1]
  rfl

include h0 h1 hE0 hE1 in
/-- The second stream at an index is the device's pair of parts. -/
theorem stream1_apply (r : Fin 176) (hR : R.val = 160 + r.val) : stream1 d x w i0 i1 e0 e1 (ix2 r f) = pair x w R a b E d := by
  pointwise [stream1, wt0, wt1, k0_pay27, k0_pay26, k0_pay25, k0_pay24, k0_pay23, k0_pay22, k0_pay21, k0_pay20, k0_pay11, k0_pay10,
    k0_pay3, k0_pay4, k0_pay1]
  have hi : (⟨160 + r.val, by omega⟩ : Fin 512) = R := Fin.ext hR.symm
  simp only [hi]
  rw [h0, h1,
    fst_word, snd_word, wt0_apply h0 h1, wt1_apply h0 h1]
  simp only [select_word, hE0, hE1]
  rfl

include h0 h1 hE0 hE1 in
/-- The third stream at an index is the device's pair of parts. -/
theorem stream2_apply (r : Fin 176) (hR : R.val = 336 + r.val) : stream2 d x w i0 i1 e0 e1 (ix2 r f) = pair x w R a b E d := by
  pointwise [stream2, wt0, wt1, k0_pay36, k0_pay35, k0_pay34, k0_pay33, k0_pay32, k0_pay31, k0_pay30, k0_pay29, k0_pay28, k0_pay11,
    k0_pay10, k0_pay3, k0_pay4, k0_pay1]
  have hi : (⟨336 + r.val, by omega⟩ : Fin 512) = R := Fin.ext hR.symm
  simp only [hi]
  rw [h0, h1,
    fst_word, snd_word, wt0_apply h0 h1, wt1_apply h0 h1]
  simp only [select_word, hE0, hE1]
  rfl

end Rows

end Cert.KernelIdeal.Steps
-- ==== Proof.Value.lean ====
module

public import proofs.«01_k».proof.Proof.Frames
public import proofs.«01_k».proof.Proof.Partial
public import Idealize.ShloMosaic.Lib.Pointwise.IndexBridge
public import Idealize.ShloMosaic.Lib.LayoutAt

/-! The kernel's result over extended real numbers, at an index. Each device's own partial result is its two experts'
parts; the three rounds of exchange add up the eight devices' partial results; and the sum over the devices is the sum
over the sixteen experts. -/

@[expose] public section

noncomputable section

namespace Cert.KernelIdeal.Steps

open Cert.KernelIdeal Cert.KernelIdeal.Gen Cert.Mix
open Idealize.ShloMosaic Idealize.ShloMosaic.TcCoe
open Idealize.SL Idealize.SL.Sem

variable (m : (ℓ : Loc nD τ sig) → Buf (Elt Ideal) ℓ) (ρ : Dev nD → PrngReg)

/-! ## The arguments, as arrays -/

abbrev argX (c : Dev nD) : FVec Ideal S512x256 .f32 := m ((c.tc : Thread nD τ).loc main_arg0)
abbrev argW (c : Dev nD) : FVec Ideal S256x16 .f32 := m ((c.tc : Thread nD τ).loc main_arg1)
abbrev argI (c : Dev nD) : IVec S512x2 32 := m ((c.tc : Thread nD τ).loc main_arg2)
abbrev argE (c : Dev nD) : FVec Ideal S2x256x512 .f32 := m ((c.tc : Thread nD τ).loc main_arg3)

/-! ## What the loads give -/

/-- The tokens as staged are the argument. -/
theorem xv_eq (c : Dev nD) : xv m c = argX m c := Memref.read_access_unit_zero _ main_arg0 (funext fun b => Nat.zero_mul _) _ _
/-- The router's matrix as staged is the argument. -/
theorem wv_eq (c : Dev nD) : wv m c = argW m c := Memref.read_access_unit_zero _ main_arg1 (funext fun b => Nat.zero_mul _) _ _
/-- The routed expert numbers as staged are the argument. -/
theorem iv_eq (c : Dev nD) : iv m c = argI m c := Memref.read_access_unit_zero _ main_arg2 (funext fun b => Nat.zero_mul _) _ _
/-- The experts' matrices as staged are the argument. -/
theorem ev_eq (c : Dev nD) : ev m c = argE m c := Memref.read_access_unit_zero _ main_arg3 (funext fun b => Nat.zero_mul _) _ _

/-- The load of the tokens gives the argument. -/
theorem ldx_eq (c : Dev nD) : ldx m c = argX m c := by
  rw [← xv_eq]
  exact Memref.readAt_unit_zero _ cc0_stg0_0 (funext fun b => by fin_cases b <;> rfl) _ _

/-- The load of the router's matrix gives the argument. -/
theorem ldw_eq (c : Dev nD) : ldw m c = argW m c := by
  rw [← wv_eq]
  exact Memref.readAt_unit_zero _ cc0_stg1_0 (funext fun b => by fin_cases b <;> rfl) _ _

/-- A unit-stride coordinate at offset zero. -/
theorem shift (n : Nat) : 0 + 1 * n = n := by omega

/-- The load of the first column gives every row's first expert. -/
theorem ldi0_apply (c : Dev nD) (R : Fin 512) : ldi0 m c (ix2 R 0) = argI m c (ix2 R 0) := by
  rw [← iv_eq]
  show iv m c _ = _
  congr 1
  funext b; refine Fin.ext ?_
  match b with
  | ⟨0, _⟩ => exact shift _
  | ⟨1, _⟩ => rfl

/-- The load of the second column gives every row's second expert. -/
theorem ldi1_apply (c : Dev nD) (R : Fin 512) : ldi1 m c (ix2 R 0) = argI m c (ix2 R 1) := by
  rw [← iv_eq]
  show iv m c _ = _
  congr 1
  funext b; refine Fin.ext ?_
  match b with
  | ⟨0, _⟩ => exact shift _
  | ⟨1, _⟩ => rfl

/-- The load of the first matrix. -/
theorem lde0_apply (c : Dev nD) (k : Fin 256) (f : Fin 512) : lde0 m c (ix3 0 k f) = argE m c (ix3 0 k f) := by
  rw [← ev_eq]
  show ev m c _ = _
  congr 1
  funext b; refine Fin.ext ?_
  match b with
  | ⟨0, _⟩ => rfl
  | ⟨1, _⟩ => exact shift _
  | ⟨2, _⟩ => exact shift _

/-- The load of the second matrix. -/
theorem lde1_apply (c : Dev nD) (k : Fin 256) (f : Fin 512) : lde1 m c (ix3 0 k f) = argE m c (ix3 1 k f) := by
  rw [← ev_eq]
  show ev m c _ = _
  congr 1
  funext b; refine Fin.ext ?_
  match b with
  | ⟨0, _⟩ => rfl
  | ⟨1, _⟩ => exact shift _
  | ⟨2, _⟩ => exact shift _

/-! ## A device's own partial result -/

/-- Device `c`'s own partial result at row `R` and column `f`, the row's experts being `a` and `b`. -/
theorem own_apply (c : Dev nD) (R f : Fin 512) (a b : Fin 16) (E : Fin 16 → Fin 256 → EReal)
    (h0 : argI m c (ix2 R 0) = BitVec.ofNat 32 a.val) (h1 : argI m c (ix2 R 1) = BitVec.ofNat 32 b.val)
    (hE0 : ∀ k, argE m c (ix3 0 k f) = E (Mix.first c) k) (hE1 : ∀ k, argE m c (ix3 1 k f) = E (Mix.second c) k) :
    own m c (ix2 R f) = pair (argX m c) (argW m c) R a b E c := by
  have g0 := (ldi0_apply m c R).trans h0
  have g1 := (ldi1_apply m c R).trans h1
  have gE0 := fun k => (lde0_apply m c k f).trans (hE0 k)
  have gE1 := fun k => (lde1_apply m c k f).trans (hE1 k)
  unfold own
  split
  next h =>
    rw [← ldx_eq, ← ldw_eq]
    show st0 m c (ValueIdx.ix2 (⟨R.val, h⟩ : Fin 160) f) = _
    rw [← ix2_eq_valueIdx]
    exact stream0_apply g0 g1 gE0 gE1 ⟨R.val, h⟩ rfl
  next h =>
    split
    next h2 =>
      have h' : ¬ R.val < 160 := h
      have h2' : R.val < 336 := h2
      rw [← ldx_eq, ← ldw_eq]
      show st1 m c (ValueIdx.ix2 (⟨R.val - 160, by omega⟩ : Fin 176) f) = _
      rw [← ix2_eq_valueIdx]
      exact stream1_apply g0 g1 gE0 gE1 ⟨R.val - 160, _⟩ (by show R.val = 160 + (R.val - 160); omega)
    next h2 =>
      have h' : ¬ R.val < 336 := h2
      rw [← ldx_eq, ← ldw_eq]
      show st2 m c (ValueIdx.ix2 (⟨R.val - 336, by omega⟩ : Fin 176) f) = _
      rw [← ix2_eq_valueIdx]
      exact stream2_apply g0 g1 gE0 gE1 ⟨R.val - 336, _⟩ (by show R.val = 336 + (R.val - 336); omega)

/-! ## The exchange -/

/-- The devices whose partial results device `c` has added up after three rounds of a stream of number `s`. -/
def reached (s : Nat) (c : Dev nD) : List (Dev nD) :=
  let p := part (s % 3); let q := part ((s + 1) % 3); let r := part ((s + 2) % 3)
  [c, p c, q c, p (q c), r c, p (r c), q (r c), p (q (r c))]

/-- They are all eight devices. -/
theorem reached_perm (s : Fin 3) (c : Dev nD) : (reached s.val c).Perm (List.finRange 8) := by
  revert s c; decide

/-- After three rounds every device holds the sum of the eight partial results. -/
theorem V_three (c : Dev nD) (i : S512x512.Idx) : V m 3 c i = ∑ d : Dev nD, own m d i := by
  have hp := (reached_perm ⟨strOf i, strOf_lt i⟩ c).map fun d => (own m d i : EReal)
  have hs : ∑ d : Dev nD, (own m d i : EReal) = ((List.finRange 8).map fun d => (own m d i : EReal)).sum :=
    (List.sum_ofFn (f := fun d : Fin 8 => (own m d i : EReal))).symm.trans (congrArg List.sum (List.ofFn_eq_map ..))
  refine Eq.trans ?_ (hp.sum_eq.trans hs.symm)
  simp only [V, reached, List.map_cons, List.map_nil, List.sum_cons, List.sum_nil, Ideal.addf_def, Nat.add_zero, add_zero]
  ac_rfl

/-! ## The result -/

/-- The result on device `c`, at row `R` and column `f`, when the operands are finite. -/
theorem outV_apply (c : Dev nD) (R f : Fin 512) (a b : Fin 16) (x : FVec Ideal S512x256 .f32) (w : FVec Ideal S256x16 .f32)
    (E : Fin 16 → Fin 256 → EReal)
    (hx : ∀ c, argX m c = x) (hw : ∀ c, argW m c = w)
    (h0 : ∀ c, argI m c (ix2 R 0) = BitVec.ofNat 32 a.val) (h1 : ∀ c, argI m c (ix2 R 1) = BitVec.ofNat 32 b.val)
    (hE0 : ∀ c k, argE m c (ix3 0 k f) = E (Mix.first c) k) (hE1 : ∀ c k, argE m c (ix3 1 k f) = E (Mix.second c) k)
    (fx : ∀ R k, ∃ r : ℝ, x (ix2 R k) = (r : EReal)) (fw : ∀ k e, ∃ r : ℝ, w (ix2 k e) = (r : EReal)) :
    outV m c (ix2 R f)
      = share (tok x R) (rtr w) a b * (∑ k, x (ix2 R k) * E a k) + share' (tok x R) (rtr w) a b * ∑ k, x (ix2 R k) * E b k := by
  show V m 3 c (ix2 R f) = _
  rw [V_three, Finset.sum_congr rfl fun d _ => own_apply m d R f a b E (h0 d) (h1 d) (hE0 d) (hE1 d)]
  simp only [hx, hw]
  obtain ⟨hu, hv⟩ := share_nonneg (fx R) fw a b
  exact (sum_by_device _).trans (mix_experts _ a b hu hv E)

end Cert.KernelIdeal.Steps
-- ==== Proof.Given.lean ====
module

public import proofs.«01_k».proof.Proof.Gen.Pre_routed_KernelIdeal
public import Idealize.ShloMosaic.Lib.ReduceAll
public import Idealize.ShloMosaic.Lib.Pointwise

/-! The precondition, read back: every expert number is the word of a number below sixteen, and the tokens and the
router's matrix are real numbers. -/

@[expose] public section

noncomputable section

namespace Cert.Given

open Cert.Pre_routed_KernelIdeal Cert.Pre_routed_KernelIdeal.Gen
open Idealize.ShloMosaic

/-- There is one index into an array without axes. -/
instance : Subsingleton S_.Idx := ⟨fun _ _ => funext fun b => b.elim0⟩

/-- A word that is, read signed, at least zero and below sixteen is the word of a number below sixteen. -/
theorem word_of_bounds (v : BitVec 32) (h0 : (0#32).toInt ≤ v.toInt) (h1 : v.toInt < (16#32).toInt) :
    ∃ a : Fin 16, v = BitVec.ofNat 32 a.val := by
  have e0 : (0#32).toInt = 0 := rfl
  have e1 : (16#32).toInt = 16 := rfl
  rw [e0] at h0; rw [e1] at h1
  have hv := v.isLt
  have hn : v.toNat < 16 := by rw [BitVec.toInt_eq_toNat_cond] at h0 h1; split at h0 <;> split at h1 <;> omega
  exact ⟨⟨v.toNat, hn⟩, BitVec.eq_of_toNat_eq (by rw [BitVec.toNat_ofNat]; show v.toNat = v.toNat % _; omega)⟩

/-- The bits of plus infinity. -/
theorem ofBits_inf : Ideal.ofBits .f32 0x7F800000#32 = ⊤ := by
  unfold Ideal.ofBits Ideal.ieee
  simp

/-- What lies below plus infinity in absolute value is a real number. -/
theorem real_of_abs (v : EReal) (h : Ideal.cmp .olt (max v (-v)) (Ideal.ofBits .f32 0x7F800000#32) = 1#1) : ∃ r : ℝ, v = (r : EReal) := by
  rw [ofBits_inf] at h
  induction v with
  | bot => exact absurd h (by simp [Ideal.cmp])
  | coe r => exact ⟨r, rfl⟩
  | top => exact absurd h (by simp [Ideal.cmp])

variable {x : FVec Ideal S512x256 .f32} {w : FVec Ideal S256x16 .f32} {i : IVec S512x2 32} {e : FVec Ideal S2x256x512 .f32}
  (h : fn x w i e = fun _ => 1#1)

include h in
/-- The three parts of the precondition. -/
theorem parts : (∀ j, ∃ a : Fin 16, i j = BitVec.ofNat 32 a.val) ∧ (∀ j, ∃ r : ℝ, x j = (r : EReal)) ∧ ∀ j, ∃ r : ℝ, w j = (r : EReal) := by
  have h' := congrFun h (fun b => b.elim0)
  obtain ⟨h12, h3⟩ := IntOp.andi_eq_one.1 h'
  obtain ⟨h1, h2⟩ := IntOp.andi_eq_one.1 h12
  refine ⟨fun j => ?_, fun j => ?_, fun j => ?_⟩
  · obtain ⟨hl, hu⟩ := IntOp.andi_eq_one.1 (Host.reduce_andi_all _ _ _ _ _ h1 j)
    exact word_of_bounds _ (IntOp.cmpi_sge.1 hl) (IntOp.cmpi_slt.1 hu)
  · exact real_of_abs _ (Host.reduce_andi_all _ _ _ _ _ h2 j)
  · exact real_of_abs _ (Host.reduce_andi_all _ _ _ _ _ h3 j)

end Cert.Given
-- ==== Proof.RefValue.lean ====
module

public import proofs.«01_k».proof.Proof.Gen.ReferenceIdeal.Run
public import proofs.«01_k».proof.Proof.Mix
public import Idealize.ShloMosaic.Lib.Pointwise

/-! The reference's result, read at an index over extended real numbers: for each token the two chosen experts' products,
each times its share (`mixed_apply`). -/

@[expose] public section

noncomputable section

namespace Cert.ReferenceIdeal.Read

open Cert.ReferenceIdeal Cert.ReferenceIdeal.Gen Cert.ReferenceIdeal.Value Cert.Mix
open Idealize.ShloMosaic Idealize.ShloMosaic.TcCoe

/-! ## The gathers -/

/-- A small word reads back as its number. -/
theorem toNat_word (n : Nat) (h : n < 512) : (BitVec.ofNat 32 n).toInt.toNat = n := by
  rw [BitVec.toInt_eq_toNat_of_lt (by rw [BitVec.toNat_ofNat]; omega), BitVec.toNat_ofNat]
  omega

/-- The dimension numbers of the two gathers. -/
abbrev entryD := gather_S512x16_S512x2_S512_n_01_n_n_01_1_11
abbrev matrixD := gather_S16x256x512_S512x1_S512x256x512_12_0_n_n_0_1_1256512

/-- The entry gather's index pair names both axes, -/
theorem entry_mem (c : Fin 2) : c ∈ entryD.startIndexMap := by revert c; decide
/-- and keeps neither in the result. -/
theorem entry_collapsed (c : Fin 2) : c ∈ entryD.collapsedSliceDims := by revert c; decide
/-- The matrix gather's index names the first axis, -/
theorem matrix_mem : (0 : Fin 3) ∈ matrixD.startIndexMap := by decide
/-- which the result does not keep, -/
theorem matrix_collapsed : (0 : Fin 3) ∈ matrixD.collapsedSliceDims := by decide
/-- and no other axis, -/
theorem matrix_not_mem (c : Fin 3) (hc : c ≠ 0) : c ∉ matrixD.startIndexMap := by revert c; decide
/-- which the result keeps. -/
theorem matrix_kept (c : Fin 3) (hc : c ≠ 0) : c ∈ matrixD.sKept := by revert c; decide

/-- The start of row `r` on axis `c`, the row's index pair being `(r, a)`. -/
theorem entry_start (idx : IVec S512x2 32) (r : Fin 512) (c : Fin 2) (n : Nat) (hn : n < 512) (h : idx (ix2 r c) = BitVec.ofNat 32 n) :
    entryD.start (ix1 r) idx c = min n (S512x16.size c - 1) := by
  unfold GatherDims.start
  rw [dif_pos (entry_mem c)]
  have hsi : entryD.siIdx (ix1 r) ⟨List.idxOf c entryD.startIndexMap, List.idxOf_lt_length_iff.2 (entry_mem c)⟩ = ix2 r c := by
    funext b; refine Fin.ext ?_
    match b with
    | ⟨0, _⟩ => rfl
    | ⟨1, _⟩ => exact (show ∀ c : Fin 2, List.idxOf c entryD.startIndexMap = c.val by decide) c
  rw [hsi, h, toNat_word n hn]
  exact congrArg (fun k => min n (S512x16.size c - k)) ((show ∀ c : Fin 2, entryD.sliceSizes c = 1 by decide) c)

/-- The gather of one element per row: row `r`, the column that the second index names. -/
theorem gather_entry (x : FVec Ideal S512x16 .f32) (idx : IVec S512x2 32) (r : Fin 512) (a : Fin 16)
    (h0 : idx (ix2 r 0) = BitVec.ofNat 32 r.val) (h1 : idx (ix2 r 1) = BitVec.ofNat 32 a.val) :
    Host.gather entryD x idx (ix1 r) = x (ix2 r a) := by
  unfold Host.gather
  congr 1
  funext c
  refine Fin.ext ?_
  show entryD.start (ix1 r) idx c + entryD.batchCoord (ix1 r) c + entryD.offCoord (ix1 r) c = _
  rw [GatherDims.batchCoord_eq_zero _ _ _ List.not_mem_nil,
    GatherDims.offCoord_eq_zero _ _ _ (fun h => ((GatherDims.mem_sKept _ _).mp h).1 (entry_collapsed c))]
  have h01 : c = (0 : Fin 2) ∨ c = (1 : Fin 2) := (show ∀ c : Fin 2, c = 0 ∨ c = 1 by decide) c
  rcases h01 with rfl | rfl
  · exact (entry_start idx r 0 r.val r.isLt h0).trans (Nat.min_eq_left (show r.val ≤ 512 - 1 by omega))
  · exact (entry_start idx r 1 a.val (by omega) h1).trans (Nat.min_eq_left (show a.val ≤ 16 - 1 by omega))

/-- The start of row `r` on the axis of matrices. -/
theorem matrix_start (idx : IVec S512x1 32) (r : Fin 512) (k : Fin 256) (f : Fin 512) (n : Nat) (hn : n < 512)
    (h : idx (ix2 r 0) = BitVec.ofNat 32 n) : matrixD.start (ix3 r k f) idx (0 : Fin 3) = min n 15 := by
  unfold GatherDims.start
  rw [dif_pos matrix_mem]
  have hsi : matrixD.siIdx (ix3 r k f) ⟨List.idxOf (0 : Fin 3) matrixD.startIndexMap, List.idxOf_lt_length_iff.2 matrix_mem⟩ = ix2 r 0 := by
    funext b; refine Fin.ext ?_
    match b with
    | ⟨0, _⟩ => rfl
    | ⟨1, _⟩ => rfl
  rw [hsi, h, toNat_word n hn]
  rfl

/-- The gather of one matrix per row: the matrix that the row's index names. -/
theorem gather_matrix (x : FVec Ideal S16x256x512 .f32) (idx : IVec S512x1 32) (r : Fin 512) (k : Fin 256) (f : Fin 512) (a : Fin 16)
    (h : idx (ix2 r 0) = BitVec.ofNat 32 a.val) : Host.gather matrixD x idx (ix3 r k f) = x (ix3 a k f) := by
  unfold Host.gather
  congr 1
  funext c
  refine Fin.ext ?_
  show matrixD.start (ix3 r k f) idx c + matrixD.batchCoord (ix3 r k f) c + matrixD.offCoord (ix3 r k f) c = _
  rw [GatherDims.batchCoord_eq_zero _ _ _ List.not_mem_nil, Nat.add_zero]
  have h012 : c = (0 : Fin 3) ∨ c = (1 : Fin 3) ∨ c = (2 : Fin 3) := (show ∀ c : Fin 3, c = 0 ∨ c = 1 ∨ c = 2 by decide) c
  rcases h012 with rfl | rfl | rfl
  · rw [GatherDims.offCoord_eq_zero _ _ _ (fun h => ((GatherDims.mem_sKept _ _).mp h).1 matrix_collapsed)]
    exact (matrix_start idx r k f a.val (by omega) h).trans (Nat.min_eq_left (show a.val ≤ 15 by omega))
  · unfold GatherDims.start GatherDims.offCoord
    rw [dif_neg (matrix_not_mem 1 (by decide)), dif_pos (matrix_kept 1 (by decide))]
    exact Nat.zero_add _
  · unfold GatherDims.start GatherDims.offCoord
    rw [dif_neg (matrix_not_mem 2 (by decide)), dif_pos (matrix_kept 2 (by decide))]
    exact Nat.zero_add _

/-! ## The result's parts -/

section Parts
variable (x : FVec Ideal S512x256 .f32) (w : FVec Ideal S256x16 .f32) (i : IVec S512x2 32) (e : FVec Ideal S16x256x512 .f32)

/-- The scores' exponentials. -/
def exps : FVec Ideal S512x16 .f32 :=
  Host.exp (subf (Host.dotGeneral dot_S512x256_S256x16_S512x16_1_0_0_1_n_n none x w)
    (broadcastInDim S512x16 ![0, 1] bcast_S512x1_S512x16_0_1 (broadcastInDim S512x1 ![0] bcast_S512_S512x1_0
      (Host.reduce FloatOps.maximumf (Host.dotGeneral dot_S512x256_S256x16_S512x16_1_0_0_1_n_n none x w)
        (constant S_ .f32 0xFF800000#32) reducesTo_S512x16_S512_d1 h_S_))))
/-- The softmax. -/
def probs : FVec Ideal S512x16 .f32 :=
  Host.divf (exps x w) (broadcastInDim S512x16 ![0, 1] bcast_S512x1_S512x16_0_1 (broadcastInDim S512x1 ![0] bcast_S512_S512x1_0
    (Host.reduceAdd (exps x w) (constant S_ .f32 0x00000000#32) reducesTo_S512x16_S512_d1 h_S_)))
/-- The first and the second column of the routing. -/
def lane0 : IVec S512 32 := shapeCast _ (extractStridedSlice S512x1 ![0, 0] i slices_S512x2_S512x1_0_0) shapeCasts_S512x1_S512
def lane1 : IVec S512 32 := shapeCast _ (extractStridedSlice S512x1 ![0, 1] i slices_S512x2_S512x1_0_1) shapeCasts_S512x1_S512
/-- A column of indices into an axis of `n`, a negative one counted from the end. -/
def wrapped (n : BitVec 32) (l : IVec S512 32) : IVec S512x1 32 :=
  broadcastInDim S512x1 ![0] bcast_S512_S512x1_0
    (select (cmpi .slt l (broadcastInDim S512 ![] bcast_S_S512 (constantI S_ 32 0#32)))
      (addi l (broadcastInDim S512 ![] bcast_S_S512 (constantI S_ 32 n))) l)
/-- Each row's number beside its entry of a column. -/
def places (l : IVec S512 32) : IVec S512x2 32 :=
  concatenate S512x2 1 [⟨S512x1, wrapped 512#32 (iotaInDim S512 32 0)⟩, ⟨S512x1, wrapped 16#32 l⟩]
    concatenates_S512x1_S512x1_S512x2_d1
/-- The softmax of the chosen experts. -/
def chosen (l : IVec S512 32) : FVec Ideal S512 .f32 :=
  Host.gather gather_S512x16_S512x2_S512_n_01_n_n_01_1_11 (probs x w) (places l)
/-- Each token against the matrix of its chosen expert. -/
def prods (l : IVec S512 32) : FVec Ideal S512x512 .f32 :=
  Host.dotGeneral dot_S512x256_S512x256x512_S512x512_1_1_n_2_0_0 none x
    (Host.gather gather_S16x256x512_S512x1_S512x256x512_12_0_n_n_0_1_1256512 e (wrapped 16#32 l))
/-- A column laid over the columns of the result. -/
def over (v : FVec Ideal S512 .f32) : FVec Ideal S512x512 .f32 :=
  broadcastInDim S512x512 ![0, 1] bcast_S512x1_S512x512_0_1 (broadcastInDim S512x1 ![0] bcast_S512_S512x1_0 v)
/-- The result. -/
def mixed : FVec Ideal S512x512 .f32 :=
  addf (mulf (over (Host.divf (chosen x w (lane0 i)) (addf (chosen x w (lane0 i)) (chosen x w (lane1 i))))) (prods x e (lane0 i)))
    (mulf (over (Host.divf (chosen x w (lane1 i)) (addf (chosen x w (lane0 i)) (chosen x w (lane1 i))))) (prods x e (lane1 i)))

/-- The reference's softmax, read at an index. -/
theorem probs_apply (R : Fin 512) (a : Fin 16) :
    probs x w (ix2 R a) = prob (fun k => x (ix2 R k)) (fun k e => w (ix2 k e)) a := by
  pointwise [probs, exps]
  rfl

/-- The first routed expert of a row. -/
theorem lane0_apply (R : Fin 512) : lane0 i (ix1 R) = i (ix2 R 0) := by pointwise [lane0]
/-- The second routed expert of a row. -/
theorem lane1_apply (R : Fin 512) : lane1 i (ix1 R) = i (ix2 R 1) := by pointwise [lane1]

/-- A small number is not negative: the wrap leaves it. -/
theorem wrapped_apply (n : BitVec 32) (l : IVec S512 32) (R : Fin 512) (a : Nat) (ha : a < 512) (h : l (ix1 R) = BitVec.ofNat 32 a) :
    wrapped n l (ix2 R 0) = BitVec.ofNat 32 a := by
  pointwise [wrapped]
  rw [h]
  have hs : IntOp.cmpi .slt (BitVec.ofNat 32 a) 0#32 = 0#1 := by
    unfold IntOp.cmpi
    rw [BitVec.slt_eq_decide, decide_eq_false (by
      rw [BitVec.toInt_eq_toNat_of_lt (by rw [BitVec.toNat_ofNat]; omega)]
      exact not_lt.2 (Int.natCast_nonneg _))]
    rfl
  rw [hs]
  rfl

/-- The gather's first index is the row. -/
theorem places_apply0 (l : IVec S512 32) (R : Fin 512) : places l (ix2 R 0) = BitVec.ofNat 32 R.val := by
  pointwise [places]
  exact wrapped_apply _ _ R R.val R.isLt (by pointwise)

/-- The gather's second index is the expert. -/
theorem places_apply1 (l : IVec S512 32) (R : Fin 512) (a : Fin 16) (h : l (ix1 R) = BitVec.ofNat 32 a.val) :
    places l (ix2 R 1) = BitVec.ofNat 32 a.val := by
  pointwise [places]
  exact wrapped_apply _ _ R a.val (by omega) h

/-- The probability gathered for a row is its expert's. -/
theorem chosen_apply (l : IVec S512 32) (R : Fin 512) (a : Fin 16) (h : l (ix1 R) = BitVec.ofNat 32 a.val) :
    chosen x w l (ix1 R) = prob (fun k => x (ix2 R k)) (fun k e => w (ix2 k e)) a := by
  unfold chosen
  rw [gather_entry _ _ R a (places_apply0 l R) (places_apply1 l R a h), probs_apply]

/-- The product gathered for a row is with its expert's matrix. -/
theorem prods_apply (l : IVec S512 32) (R f : Fin 512) (a : Fin 16) (h : l (ix1 R) = BitVec.ofNat 32 a.val) :
    prods x e l (ix2 R f) = ∑ k, x (ix2 R k) * e (ix3 a k f) := by
  pointwise [prods]
  exact Finset.sum_congr rfl fun k _ => by rw [gather_matrix _ _ R k f a (wrapped_apply _ _ R a.val (by omega) h)]

/-- The result at row `R` and column `f`, the row's experts being `a` and `b`. -/
theorem mixed_apply (R f : Fin 512) (a b : Fin 16) (ha : i (ix2 R 0) = BitVec.ofNat 32 a.val) (hb : i (ix2 R 1) = BitVec.ofNat 32 b.val) :
    mixed x w i e (ix2 R f)
      = share (fun k => x (ix2 R k)) (fun k e => w (ix2 k e)) a b * (∑ k, x (ix2 R k) * e (ix3 a k f))
        + share' (fun k => x (ix2 R k)) (fun k e => w (ix2 k e)) a b * ∑ k, x (ix2 R k) * e (ix3 b k f) := by
  pointwise [mixed, over]
  rw [chosen_apply x w _ R a ((lane0_apply i R).trans ha), chosen_apply x w _ R b ((lane1_apply i R).trans hb),
    prods_apply x e _ R f a ((lane0_apply i R).trans ha), prods_apply x e _ R f b ((lane1_apply i R).trans hb)]
  rfl

end Parts

/-- The reference's composed term is `mixed` of its arguments. -/
theorem res_eq (m : (ℓ : Loc nD τ sig) → Buf (Elt Ideal) ℓ) (c : Dev nD) :
    res_main_v68 m c = mixed (m ((c.tc : Thread nD τ).loc main_arg0)) (m ((c.tc : Thread nD τ).loc main_arg1))
      (m ((c.tc : Thread nD τ).loc main_arg2)) (m ((c.tc : Thread nD τ).loc main_arg3)) := rfl

end Cert.ReferenceIdeal.Read
-- ==== Proof.Algebraic.lean ====
module

public import proofs.«01_k».proof.Proof.Value
public import proofs.«01_k».proof.Proof.Given
public import proofs.«01_k».proof.Proof.RefValue

/-! The kernel and the reference give the same result over extended real numbers. -/

@[expose] public section

noncomputable section

namespace Cert.KernelIdeal.Steps

open Cert.KernelIdeal Cert.KernelIdeal.Gen Cert.Mix
open Idealize.ShloMosaic Idealize.ShloMosaic.TcCoe
open Idealize.SL Idealize.SL.Sem

/-- Device `c`'s block of the experts' matrices: its first matrix is matrix `2c` of the whole array, its second `2c + 1`. -/
theorem block_first (c : Fin 8) (e : Shape.Idx ⟨3, ![16, 256, 512]⟩ → EReal) (k : Fin 256) (f : Fin 512) :
    Layout.block ⟨3, ![2, 256, 512]⟩ ⟨3, ![16, 256, 512]⟩ 0 8 c e (by decide) (ix3 0 k f) = e (ix3 (Mix.first c) k f) := by
  rw [Layout.block_apply]
  congr 1
  funext b; refine Fin.ext ?_
  rw [Layout.Tiles.idx_val]
  match b with
  | ⟨0, _⟩ => exact (show c.val * 2 + 0 = 2 * c.val by omega)
  | ⟨1, _⟩ => rfl
  | ⟨2, _⟩ => rfl

/-- The second matrix likewise. -/
theorem block_second (c : Fin 8) (e : Shape.Idx ⟨3, ![16, 256, 512]⟩ → EReal) (k : Fin 256) (f : Fin 512) :
    Layout.block ⟨3, ![2, 256, 512]⟩ ⟨3, ![16, 256, 512]⟩ 0 8 c e (by decide) (ix3 1 k f) = e (ix3 (Mix.second c) k f) := by
  rw [Layout.block_apply]
  congr 1
  funext b; refine Fin.ext ?_
  rw [Layout.Tiles.idx_val]
  match b with
  | ⟨0, _⟩ => exact (show c.val * 2 + 1 = 2 * c.val + 1 by omega)
  | ⟨1, _⟩ => rfl
  | ⟨2, _⟩ => rfl

/-- The result array of device `c` at the end of the kernel's run is what the body left in the output window. -/
theorem final_out (m : (ℓ : Loc nD τ sig) → Buf (Elt Ideal) ℓ) (ρ : Dev nD → PrngReg) (c : Dev nD) :
    finalA m ρ c (4 : Fin 5) = outV m c :=
  (Memref.read_access_unit_zero _ main_v1 (funext fun b => Nat.zero_mul _) _ _).symm.trans (read_finalA m ρ c)

/-- From operands that the precondition admits, every device's result is the reference's. -/
theorem outV_eq (m : (ℓ : Loc nD τ sig) → Buf (Elt Ideal) ℓ) (x : FVec Ideal S512x256 .f32) (w : FVec Ideal S256x16 .f32)
    (i : IVec S512x2 32) (e : Shape.Idx ⟨3, ![16, 256, 512]⟩ → EReal)
    (hx : ∀ c, argX m c = x) (hw : ∀ c, argW m c = w) (hi : ∀ c, argI m c = i)
    (he : ∀ c, argE m c = Layout.block ⟨3, ![2, 256, 512]⟩ ⟨3, ![16, 256, 512]⟩ 0 8 c e)
    (pi : ∀ j, ∃ a : Fin 16, i j = BitVec.ofNat 32 a.val) (px : ∀ j, ∃ r : ℝ, x j = (r : EReal)) (pw : ∀ j, ∃ r : ℝ, w j = (r : EReal))
    (c : Dev nD) : outV m c = Cert.ReferenceIdeal.Read.mixed x w i e := by
  funext j
  obtain ⟨R, f, rfl⟩ : ∃ R f : Fin 512, j = ix2 R f :=
    ⟨j (0 : Fin 2), j (1 : Fin 2), funext fun b => match b with | ⟨0, _⟩ => rfl | ⟨1, _⟩ => rfl⟩
  obtain ⟨a, ha⟩ := pi (ix2 R 0)
  obtain ⟨b, hb⟩ := pi (ix2 R 1)
  refine (outV_apply m c R f a b x w (fun n k => e (ix3 n k f)) hx hw (fun c => (congrFun (hi c) _).trans ha)
    (fun c => (congrFun (hi c) _).trans hb) (fun c k => (congrFun (he c) _).trans (block_first c e k f))
    (fun c k => (congrFun (he c) _).trans (block_second c e k f)) (fun R k => px _) fun k n => pw _).trans ?_
  exact (Cert.ReferenceIdeal.Read.mixed_apply x w i e R f a b ha hb).symm

/-- The value claim. -/
theorem algebraic : Cert.algebraic_KernelIdeal_ReferenceIdeal_pre_routed_KernelIdeal := by
  intro m g m' g' hp ha
  obtain ⟨pi, px, pw⟩ := Cert.Given.parts (hp (0 : Dev nD))
  rw [(ha 0).1] at px
  rw [(ha 0).2.1] at pw
  rw [(ha 0).2.2.1] at pi
  refine ⟨Cert.ReferenceIdeal.Value.res_main_v68 m' 0, ?_, ?_⟩
  · refine (θ_run _ _ _).mono (fun r h c => ⟨?_, kept_of_QC m g h.1 c⟩) (run_main (F := Ideal) m g)
    refine ((h.1 c (4 : Fin 5)).trans (final_out m g c)).trans ?_
    rw [Cert.ReferenceIdeal.Read.res_eq]
    exact outV_eq m _ _ _ _ (fun c => (ha c).1) (fun c => (ha c).2.1) (fun c => (ha c).2.2.1) (fun c => (ha c).2.2.2) pi px pw c
  · exact (θ_run _ _ _).mono (fun r h => h 0) (Cert.ReferenceIdeal.Value.run (F := Ideal) m' g')

end Cert.KernelIdeal.Steps
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames, the idealization and the equality of the results over extended real numbers. -/
theorem claim : Cert.Claim := ⟨Cert.Kernel.Gen.facts, Cert.KernelIdeal.Gen.facts, Cert.ReferenceIdeal.Gen.facts,
  Cert.Pre_routed_KernelIdeal.Gen.facts, Cert.Pre_routed_ReferenceIdeal.Gen.facts,
  Cert.KernelIdeal.Steps.frame_kernel, Cert.KernelIdeal.Steps.frame_ideal, Cert.KernelIdeal.Steps.frame_ideal_routed,
  Cert.KernelIdeal.Steps.frame_ref, Cert.KernelIdeal.Steps.frame_ref_routed, trivial, Cert.KernelIdeal.Steps.algebraic⟩

end Cert.Proof

end
